-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_PackUp (m : (ℓ : Loc Cert.PackUp.nD Cert.PackUp.τ Cert.PackUp.sig) → Buf (Elt Bits) ℓ) : Prop :=
  True

def Pre_WordsUp (m : (ℓ : Loc Cert.WordsUp.nD Cert.WordsUp.τ Cert.WordsUp.sig) → Buf (Elt Bits) ℓ) : Prop :=
  True

def Pre_PackDown (m : (ℓ : Loc Cert.PackDown.nD Cert.PackDown.τ Cert.PackDown.sig) → Buf (Elt Bits) ℓ) : Prop :=
  True

def Pre_WordsDown (m : (ℓ : Loc Cert.WordsDown.nD Cert.WordsDown.τ Cert.WordsDown.sig) → Buf (Elt Bits) ℓ) : Prop :=
  True

def Pre_PackIn (m : (ℓ : Loc Cert.PackIn.nD Cert.PackIn.τ Cert.PackIn.sig) → Buf (Elt Bits) ℓ) : Prop :=
  True

def Pre_WordsIn (m : (ℓ : Loc Cert.WordsIn.nD Cert.WordsIn.τ Cert.WordsIn.sig) → Buf (Elt Bits) ℓ) : Prop :=
  True

def Pre_PackOut (m : (ℓ : Loc Cert.PackOut.nD Cert.PackOut.τ Cert.PackOut.sig) → Buf (Elt Bits) ℓ) : Prop :=
  True

def Pre_WordsOut (m : (ℓ : Loc Cert.WordsOut.nD Cert.WordsOut.τ Cert.WordsOut.sig) → Buf (Elt Bits) ℓ) : Prop :=
  True

def Pre_PackGates (m : (ℓ : Loc Cert.PackGates.nD Cert.PackGates.τ Cert.PackGates.sig) → Buf (Elt Bits) ℓ) : Prop :=
  True

def Pre_WordsGates (m : (ℓ : Loc Cert.WordsGates.nD Cert.WordsGates.τ Cert.WordsGates.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def quiescent_PackUp [hPackUp : Cert.PackUp.Facts] : Prop :=
  ∀ (m : (ℓ : Loc Cert.PackUp.nD Cert.PackUp.τ Cert.PackUp.sig) → Buf (Elt Bits) ℓ) (g : Dev Cert.PackUp.nD → PrngReg), Pre_PackUp m →
    θ_run (Cert.PackUp.defs (F := Bits)) (onTc (τ := Cert.PackUp.τ) (Cert.PackUp.main (F := Bits))) ⟨m, fun _ => 0, g⟩ (fun r => (∀ c : Dev Cert.PackUp.nD,
      r.2.mem ((c.tc : Thread Cert.PackUp.nD Cert.PackUp.τ).loc Cert.PackUp.main_arg0) = m ((c.tc : Thread Cert.PackUp.nD Cert.PackUp.τ).loc Cert.PackUp.main_arg0))
      ∧ r.2.sem = fun _ => 0)

def quiescent_WordsUp [hWordsUp : Cert.WordsUp.Facts] : Prop :=
  ∀ (m : (ℓ : Loc Cert.WordsUp.nD Cert.WordsUp.τ Cert.WordsUp.sig) → Buf (Elt Bits) ℓ) (g : Dev Cert.WordsUp.nD → PrngReg), Pre_WordsUp m →
    θ_run (Cert.WordsUp.defs (F := Bits)) (onTc (τ := Cert.WordsUp.τ) (Cert.WordsUp.main (F := Bits))) ⟨m, fun _ => 0, g⟩ (fun r => (∀ c : Dev Cert.WordsUp.nD,
      r.2.mem ((c.tc : Thread Cert.WordsUp.nD Cert.WordsUp.τ).loc Cert.WordsUp.main_arg0) = m ((c.tc : Thread Cert.WordsUp.nD Cert.WordsUp.τ).loc Cert.WordsUp.main_arg0))
      ∧ r.2.sem = fun _ => 0)

def quiescent_PackDown [hPackDown : Cert.PackDown.Facts] : Prop :=
  ∀ (m : (ℓ : Loc Cert.PackDown.nD Cert.PackDown.τ Cert.PackDown.sig) → Buf (Elt Bits) ℓ) (g : Dev Cert.PackDown.nD → PrngReg), Pre_PackDown m →
    θ_run (Cert.PackDown.defs (F := Bits)) (onTc (τ := Cert.PackDown.τ) (Cert.PackDown.main (F := Bits))) ⟨m, fun _ => 0, g⟩ (fun r => (∀ c : Dev Cert.PackDown.nD,
      r.2.mem ((c.tc : Thread Cert.PackDown.nD Cert.PackDown.τ).loc Cert.PackDown.main_arg0) = m ((c.tc : Thread Cert.PackDown.nD Cert.PackDown.τ).loc Cert.PackDown.main_arg0))
      ∧ r.2.sem = fun _ => 0)

def quiescent_WordsDown [hWordsDown : Cert.WordsDown.Facts] : Prop :=
  ∀ (m : (ℓ : Loc Cert.WordsDown.nD Cert.WordsDown.τ Cert.WordsDown.sig) → Buf (Elt Bits) ℓ) (g : Dev Cert.WordsDown.nD → PrngReg), Pre_WordsDown m →
    θ_run (Cert.WordsDown.defs (F := Bits)) (onTc (τ := Cert.WordsDown.τ) (Cert.WordsDown.main (F := Bits))) ⟨m, fun _ => 0, g⟩ (fun r => (∀ c : Dev Cert.WordsDown.nD,
      r.2.mem ((c.tc : Thread Cert.WordsDown.nD Cert.WordsDown.τ).loc Cert.WordsDown.main_arg0) = m ((c.tc : Thread Cert.WordsDown.nD Cert.WordsDown.τ).loc Cert.WordsDown.main_arg0))
      ∧ r.2.sem = fun _ => 0)

def quiescent_PackIn [hPackIn : Cert.PackIn.Facts] : Prop :=
  ∀ (m : (ℓ : Loc Cert.PackIn.nD Cert.PackIn.τ Cert.PackIn.sig) → Buf (Elt Bits) ℓ) (g : Dev Cert.PackIn.nD → PrngReg), Pre_PackIn m →
    θ_run (Cert.PackIn.defs (F := Bits)) (onTc (τ := Cert.PackIn.τ) (Cert.PackIn.main (F := Bits))) ⟨m, fun _ => 0, g⟩ (fun r => (∀ c : Dev Cert.PackIn.nD,
      r.2.mem ((c.tc : Thread Cert.PackIn.nD Cert.PackIn.τ).loc Cert.PackIn.main_arg0) = m ((c.tc : Thread Cert.PackIn.nD Cert.PackIn.τ).loc Cert.PackIn.main_arg0))
      ∧ r.2.sem = fun _ => 0)

def quiescent_WordsIn [hWordsIn : Cert.WordsIn.Facts] : Prop :=
  ∀ (m : (ℓ : Loc Cert.WordsIn.nD Cert.WordsIn.τ Cert.WordsIn.sig) → Buf (Elt Bits) ℓ) (g : Dev Cert.WordsIn.nD → PrngReg), Pre_WordsIn m →
    θ_run (Cert.WordsIn.defs (F := Bits)) (onTc (τ := Cert.WordsIn.τ) (Cert.WordsIn.main (F := Bits))) ⟨m, fun _ => 0, g⟩ (fun r => (∀ c : Dev Cert.WordsIn.nD,
      r.2.mem ((c.tc : Thread Cert.WordsIn.nD Cert.WordsIn.τ).loc Cert.WordsIn.main_arg0) = m ((c.tc : Thread Cert.WordsIn.nD Cert.WordsIn.τ).loc Cert.WordsIn.main_arg0))
      ∧ r.2.sem = fun _ => 0)

def quiescent_PackOut [hPackOut : Cert.PackOut.Facts] : Prop :=
  ∀ (m : (ℓ : Loc Cert.PackOut.nD Cert.PackOut.τ Cert.PackOut.sig) → Buf (Elt Bits) ℓ) (g : Dev Cert.PackOut.nD → PrngReg), Pre_PackOut m →
    θ_run (Cert.PackOut.defs (F := Bits)) (onTc (τ := Cert.PackOut.τ) (Cert.PackOut.main (F := Bits))) ⟨m, fun _ => 0, g⟩ (fun r => (∀ c : Dev Cert.PackOut.nD,
      r.2.mem ((c.tc : Thread Cert.PackOut.nD Cert.PackOut.τ).loc Cert.PackOut.main_arg0) = m ((c.tc : Thread Cert.PackOut.nD Cert.PackOut.τ).loc Cert.PackOut.main_arg0))
      ∧ r.2.sem = fun _ => 0)

def quiescent_WordsOut [hWordsOut : Cert.WordsOut.Facts] : Prop :=
  ∀ (m : (ℓ : Loc Cert.WordsOut.nD Cert.WordsOut.τ Cert.WordsOut.sig) → Buf (Elt Bits) ℓ) (g : Dev Cert.WordsOut.nD → PrngReg), Pre_WordsOut m →
    θ_run (Cert.WordsOut.defs (F := Bits)) (onTc (τ := Cert.WordsOut.τ) (Cert.WordsOut.main (F := Bits))) ⟨m, fun _ => 0, g⟩ (fun r => (∀ c : Dev Cert.WordsOut.nD,
      r.2.mem ((c.tc : Thread Cert.WordsOut.nD Cert.WordsOut.τ).loc Cert.WordsOut.main_arg0) = m ((c.tc : Thread Cert.WordsOut.nD Cert.WordsOut.τ).loc Cert.WordsOut.main_arg0))
      ∧ r.2.sem = fun _ => 0)

def quiescent_PackGates [hPackGates : Cert.PackGates.Facts] : Prop :=
  ∀ (m : (ℓ : Loc Cert.PackGates.nD Cert.PackGates.τ Cert.PackGates.sig) → Buf (Elt Bits) ℓ) (g : Dev Cert.PackGates.nD → PrngReg), Pre_PackGates m →
    θ_run (Cert.PackGates.defs (F := Bits)) (onTc (τ := Cert.PackGates.τ) (Cert.PackGates.main (F := Bits))) ⟨m, fun _ => 0, g⟩ (fun r => (∀ c : Dev Cert.PackGates.nD,
      r.2.mem ((c.tc : Thread Cert.PackGates.nD Cert.PackGates.τ).loc Cert.PackGates.main_arg0) = m ((c.tc : Thread Cert.PackGates.nD Cert.PackGates.τ).loc Cert.PackGates.main_arg0))
      ∧ r.2.sem = fun _ => 0)

def quiescent_WordsGates [hWordsGates : Cert.WordsGates.Facts] : Prop :=
  ∀ (m : (ℓ : Loc Cert.WordsGates.nD Cert.WordsGates.τ Cert.WordsGates.sig) → Buf (Elt Bits) ℓ) (g : Dev Cert.WordsGates.nD → PrngReg), Pre_WordsGates m →
    θ_run (Cert.WordsGates.defs (F := Bits)) (onTc (τ := Cert.WordsGates.τ) (Cert.WordsGates.main (F := Bits))) ⟨m, fun _ => 0, g⟩ (fun r => (∀ c : Dev Cert.WordsGates.nD,
      r.2.mem ((c.tc : Thread Cert.WordsGates.nD Cert.WordsGates.τ).loc Cert.WordsGates.main_arg0) = m ((c.tc : Thread Cert.WordsGates.nD Cert.WordsGates.τ).loc Cert.WordsGates.main_arg0))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mixer_MixerIdeal : Prop :=
  True

def bitexact_PackUp_WordsUp [hPackUp : Cert.PackUp.Facts] [hWordsUp : Cert.WordsUp.Facts] : Prop :=
  ∀ (m : (ℓ : Loc Cert.PackUp.nD Cert.PackUp.τ Cert.PackUp.sig) → Buf (Elt Bits) ℓ) (g : Dev Cert.PackUp.nD → PrngReg)
    (m' : (ℓ : Loc Cert.WordsUp.nD Cert.WordsUp.τ Cert.WordsUp.sig) → Buf (Elt Bits) ℓ) (g' : Dev Cert.WordsUp.nD → PrngReg), Pre_PackUp m →
    (∀ c : Dev Cert.PackUp.nD,
      m' ((c.tc : Thread Cert.WordsUp.nD Cert.WordsUp.τ).loc Cert.WordsUp.main_arg0) = m ((c.tc : Thread Cert.PackUp.nD Cert.PackUp.τ).loc Cert.PackUp.main_arg0)) →
    ∃ (v0 : (c : Dev Cert.PackUp.nD) → Buf (Elt Bits) ((c.tc : Thread Cert.PackUp.nD Cert.PackUp.τ).loc Cert.PackUp.main_v0)),
      θ_run (Cert.PackUp.defs (F := Bits)) (onTc (τ := Cert.PackUp.τ) (Cert.PackUp.main (F := Bits))) ⟨m, fun _ => 0, g⟩ (fun r => ∀ c : Dev Cert.PackUp.nD,
          r.2.mem ((c.tc : Thread Cert.PackUp.nD Cert.PackUp.τ).loc Cert.PackUp.main_v0) = v0 c
          ∧ r.2.mem ((c.tc : Thread Cert.PackUp.nD Cert.PackUp.τ).loc Cert.PackUp.main_arg0) = m ((c.tc : Thread Cert.PackUp.nD Cert.PackUp.τ).loc Cert.PackUp.main_arg0))
      ∧ θ_run (Cert.WordsUp.defs (F := Bits)) (onTc (τ := Cert.WordsUp.τ) (Cert.WordsUp.main (F := Bits))) ⟨m', fun _ => 0, g'⟩ (fun r => ∀ c : Dev Cert.WordsUp.nD,
          r.2.mem ((c.tc : Thread Cert.WordsUp.nD Cert.WordsUp.τ).loc Cert.WordsUp.main_v3) = v0 c
          ∧ r.2.mem ((c.tc : Thread Cert.WordsUp.nD Cert.WordsUp.τ).loc Cert.WordsUp.main_arg0) = m' ((c.tc : Thread Cert.WordsUp.nD Cert.WordsUp.τ).loc Cert.WordsUp.main_arg0))

def bitexact_PackDown_WordsDown [hPackDown : Cert.PackDown.Facts] [hWordsDown : Cert.WordsDown.Facts] : Prop :=
  ∀ (m : (ℓ : Loc Cert.PackDown.nD Cert.PackDown.τ Cert.PackDown.sig) → Buf (Elt Bits) ℓ) (g : Dev Cert.PackDown.nD → PrngReg)
    (m' : (ℓ : Loc Cert.WordsDown.nD Cert.WordsDown.τ Cert.WordsDown.sig) → Buf (Elt Bits) ℓ) (g' : Dev Cert.WordsDown.nD → PrngReg), Pre_PackDown m →
    (∀ c : Dev Cert.PackDown.nD,
      m' ((c.tc : Thread Cert.WordsDown.nD Cert.WordsDown.τ).loc Cert.WordsDown.main_arg0) = m ((c.tc : Thread Cert.PackDown.nD Cert.PackDown.τ).loc Cert.PackDown.main_arg0)) →
    ∃ (v0 : (c : Dev Cert.PackDown.nD) → Buf (Elt Bits) ((c.tc : Thread Cert.PackDown.nD Cert.PackDown.τ).loc Cert.PackDown.main_v0)),
      θ_run (Cert.PackDown.defs (F := Bits)) (onTc (τ := Cert.PackDown.τ) (Cert.PackDown.main (F := Bits))) ⟨m, fun _ => 0, g⟩ (fun r => ∀ c : Dev Cert.PackDown.nD,
          r.2.mem ((c.tc : Thread Cert.PackDown.nD Cert.PackDown.τ).loc Cert.PackDown.main_v0) = v0 c
          ∧ r.2.mem ((c.tc : Thread Cert.PackDown.nD Cert.PackDown.τ).loc Cert.PackDown.main_arg0) = m ((c.tc : Thread Cert.PackDown.nD Cert.PackDown.τ).loc Cert.PackDown.main_arg0))
      ∧ θ_run (Cert.WordsDown.defs (F := Bits)) (onTc (τ := Cert.WordsDown.τ) (Cert.WordsDown.main (F := Bits))) ⟨m', fun _ => 0, g'⟩ (fun r => ∀ c : Dev Cert.WordsDown.nD,
          r.2.mem ((c.tc : Thread Cert.WordsDown.nD Cert.WordsDown.τ).loc Cert.WordsDown.main_v5) = v0 c
          ∧ r.2.mem ((c.tc : Thread Cert.WordsDown.nD Cert.WordsDown.τ).loc Cert.WordsDown.main_arg0) = m' ((c.tc : Thread Cert.WordsDown.nD Cert.WordsDown.τ).loc Cert.WordsDown.main_arg0))

def bitexact_PackIn_WordsIn [hPackIn : Cert.PackIn.Facts] [hWordsIn : Cert.WordsIn.Facts] : Prop :=
  ∀ (m : (ℓ : Loc Cert.PackIn.nD Cert.PackIn.τ Cert.PackIn.sig) → Buf (Elt Bits) ℓ) (g : Dev Cert.PackIn.nD → PrngReg)
    (m' : (ℓ : Loc Cert.WordsIn.nD Cert.WordsIn.τ Cert.WordsIn.sig) → Buf (Elt Bits) ℓ) (g' : Dev Cert.WordsIn.nD → PrngReg), Pre_PackIn m →
    (∀ c : Dev Cert.PackIn.nD,
      m' ((c.tc : Thread Cert.WordsIn.nD Cert.WordsIn.τ).loc Cert.WordsIn.main_arg0) = m ((c.tc : Thread Cert.PackIn.nD Cert.PackIn.τ).loc Cert.PackIn.main_arg0)) →
    ∃ (v0 : (c : Dev Cert.PackIn.nD) → Buf (Elt Bits) ((c.tc : Thread Cert.PackIn.nD Cert.PackIn.τ).loc Cert.PackIn.main_v0)),
      θ_run (Cert.PackIn.defs (F := Bits)) (onTc (τ := Cert.PackIn.τ) (Cert.PackIn.main (F := Bits))) ⟨m, fun _ => 0, g⟩ (fun r => ∀ c : Dev Cert.PackIn.nD,
          r.2.mem ((c.tc : Thread Cert.PackIn.nD Cert.PackIn.τ).loc Cert.PackIn.main_v0) = v0 c
          ∧ r.2.mem ((c.tc : Thread Cert.PackIn.nD Cert.PackIn.τ).loc Cert.PackIn.main_arg0) = m ((c.tc : Thread Cert.PackIn.nD Cert.PackIn.τ).loc Cert.PackIn.main_arg0))
      ∧ θ_run (Cert.WordsIn.defs (F := Bits)) (onTc (τ := Cert.WordsIn.τ) (Cert.WordsIn.main (F := Bits))) ⟨m', fun _ => 0, g'⟩ (fun r => ∀ c : Dev Cert.WordsIn.nD,
          r.2.mem ((c.tc : Thread Cert.WordsIn.nD Cert.WordsIn.τ).loc Cert.WordsIn.main_v3) = v0 c
          ∧ r.2.mem ((c.tc : Thread Cert.WordsIn.nD Cert.WordsIn.τ).loc Cert.WordsIn.main_arg0) = m' ((c.tc : Thread Cert.WordsIn.nD Cert.WordsIn.τ).loc Cert.WordsIn.main_arg0))

def bitexact_PackOut_WordsOut [hPackOut : Cert.PackOut.Facts] [hWordsOut : Cert.WordsOut.Facts] : Prop :=
  ∀ (m : (ℓ : Loc Cert.PackOut.nD Cert.PackOut.τ Cert.PackOut.sig) → Buf (Elt Bits) ℓ) (g : Dev Cert.PackOut.nD → PrngReg)
    (m' : (ℓ : Loc Cert.WordsOut.nD Cert.WordsOut.τ Cert.WordsOut.sig) → Buf (Elt Bits) ℓ) (g' : Dev Cert.WordsOut.nD → PrngReg), Pre_PackOut m →
    (∀ c : Dev Cert.PackOut.nD,
      m' ((c.tc : Thread Cert.WordsOut.nD Cert.WordsOut.τ).loc Cert.WordsOut.main_arg0) = m ((c.tc : Thread Cert.PackOut.nD Cert.PackOut.τ).loc Cert.PackOut.main_arg0)) →
    ∃ (v0 : (c : Dev Cert.PackOut.nD) → Buf (Elt Bits) ((c.tc : Thread Cert.PackOut.nD Cert.PackOut.τ).loc Cert.PackOut.main_v0)),
      θ_run (Cert.PackOut.defs (F := Bits)) (onTc (τ := Cert.PackOut.τ) (Cert.PackOut.main (F := Bits))) ⟨m, fun _ => 0, g⟩ (fun r => ∀ c : Dev Cert.PackOut.nD,
          r.2.mem ((c.tc : Thread Cert.PackOut.nD Cert.PackOut.τ).loc Cert.PackOut.main_v0) = v0 c
          ∧ r.2.mem ((c.tc : Thread Cert.PackOut.nD Cert.PackOut.τ).loc Cert.PackOut.main_arg0) = m ((c.tc : Thread Cert.PackOut.nD Cert.PackOut.τ).loc Cert.PackOut.main_arg0))
      ∧ θ_run (Cert.WordsOut.defs (F := Bits)) (onTc (τ := Cert.WordsOut.τ) (Cert.WordsOut.main (F := Bits))) ⟨m', fun _ => 0, g'⟩ (fun r => ∀ c : Dev Cert.WordsOut.nD,
          r.2.mem ((c.tc : Thread Cert.WordsOut.nD Cert.WordsOut.τ).loc Cert.WordsOut.main_v3) = v0 c
          ∧ r.2.mem ((c.tc : Thread Cert.WordsOut.nD Cert.WordsOut.τ).loc Cert.WordsOut.main_arg0) = m' ((c.tc : Thread Cert.WordsOut.nD Cert.WordsOut.τ).loc Cert.WordsOut.main_arg0))

def bitexact_PackGates_WordsGates [hPackGates : Cert.PackGates.Facts] [hWordsGates : Cert.WordsGates.Facts] : Prop :=
  ∀ (m : (ℓ : Loc Cert.PackGates.nD Cert.PackGates.τ Cert.PackGates.sig) → Buf (Elt Bits) ℓ) (g : Dev Cert.PackGates.nD → PrngReg)
    (m' : (ℓ : Loc Cert.WordsGates.nD Cert.WordsGates.τ Cert.WordsGates.sig) → Buf (Elt Bits) ℓ) (g' : Dev Cert.WordsGates.nD → PrngReg), Pre_PackGates m →
    (∀ c : Dev Cert.PackGates.nD,
      m' ((c.tc : Thread Cert.WordsGates.nD Cert.WordsGates.τ).loc Cert.WordsGates.main_arg0) = m ((c.tc : Thread Cert.PackGates.nD Cert.PackGates.τ).loc Cert.PackGates.main_arg0)) →
    ∃ (v0 : (c : Dev Cert.PackGates.nD) → Buf (Elt Bits) ((c.tc : Thread Cert.PackGates.nD Cert.PackGates.τ).loc Cert.PackGates.main_v0)),
      θ_run (Cert.PackGates.defs (F := Bits)) (onTc (τ := Cert.PackGates.τ) (Cert.PackGates.main (F := Bits))) ⟨m, fun _ => 0, g⟩ (fun r => ∀ c : Dev Cert.PackGates.nD,
          r.2.mem ((c.tc : Thread Cert.PackGates.nD Cert.PackGates.τ).loc Cert.PackGates.main_v0) = v0 c
          ∧ r.2.mem ((c.tc : Thread Cert.PackGates.nD Cert.PackGates.τ).loc Cert.PackGates.main_arg0) = m ((c.tc : Thread Cert.PackGates.nD Cert.PackGates.τ).loc Cert.PackGates.main_arg0))
      ∧ θ_run (Cert.WordsGates.defs (F := Bits)) (onTc (τ := Cert.WordsGates.τ) (Cert.WordsGates.main (F := Bits))) ⟨m', fun _ => 0, g'⟩ (fun r => ∀ c : Dev Cert.WordsGates.nD,
          r.2.mem ((c.tc : Thread Cert.WordsGates.nD Cert.WordsGates.τ).loc Cert.WordsGates.main_v3) = v0 c
          ∧ r.2.mem ((c.tc : Thread Cert.WordsGates.nD Cert.WordsGates.τ).loc Cert.WordsGates.main_arg0) = m' ((c.tc : Thread Cert.WordsGates.nD Cert.WordsGates.τ).loc Cert.WordsGates.main_arg0))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hPackUp : Cert.PackUp.Facts) (hWordsUp : Cert.WordsUp.Facts) (hPackDown : Cert.PackDown.Facts) (hWordsDown : Cert.WordsDown.Facts) (hPackIn : Cert.PackIn.Facts) (hWordsIn : Cert.WordsIn.Facts) (hPackOut : Cert.PackOut.Facts) (hWordsOut : Cert.WordsOut.Facts) (hPackGates : Cert.PackGates.Facts) (hWordsGates : Cert.WordsGates.Facts),
    quiescent_Kernel (hKernel := hKernel)
    ∧ quiescent_KernelIdeal (hKernelIdeal := hKernelIdeal)
    ∧ quiescent_ReferenceIdeal (hReferenceIdeal := hReferenceIdeal)
    ∧ quiescent_Mixer (hMixer := hMixer)
    ∧ quiescent_MixerIdeal (hMixerIdeal := hMixerIdeal)
    ∧ quiescent_PackUp (hPackUp := hPackUp)
    ∧ quiescent_WordsUp (hWordsUp := hWordsUp)
    ∧ quiescent_PackDown (hPackDown := hPackDown)
    ∧ quiescent_WordsDown (hWordsDown := hWordsDown)
    ∧ quiescent_PackIn (hPackIn := hPackIn)
    ∧ quiescent_WordsIn (hWordsIn := hWordsIn)
    ∧ quiescent_PackOut (hPackOut := hPackOut)
    ∧ quiescent_WordsOut (hWordsOut := hWordsOut)
    ∧ quiescent_PackGates (hPackGates := hPackGates)
    ∧ quiescent_WordsGates (hWordsGates := hWordsGates)
    ∧ preserves_Kernel_KernelIdeal
    ∧ algebraic_KernelIdeal_ReferenceIdeal (hKernelIdeal := hKernelIdeal) (hReferenceIdeal := hReferenceIdeal)
    ∧ preserves_Mixer_MixerIdeal
    ∧ bitexact_PackUp_WordsUp (hPackUp := hPackUp) (hWordsUp := hWordsUp)
    ∧ bitexact_PackDown_WordsDown (hPackDown := hPackDown) (hWordsDown := hWordsDown)
    ∧ bitexact_PackIn_WordsIn (hPackIn := hPackIn) (hWordsIn := hWordsIn)
    ∧ bitexact_PackOut_WordsOut (hPackOut := hPackOut) (hWordsOut := hWordsOut)
    ∧ bitexact_PackGates_WordsGates (hPackGates := hPackGates) (hWordsGates := hWordsGates)
-- ==== Kernel.lean ====
abbrev S4x8192x1024 : Shape := ⟨3, ![4, 8192, 1024]⟩
abbrev S1x1024 : Shape := ⟨2, ![1, 1024]⟩
abbrev S512x6144 : Shape := ⟨2, ![512, 6144]⟩
abbrev S3x6144 : Shape := ⟨2, ![3, 6144]⟩
abbrev S1x6144 : Shape := ⟨2, ![1, 6144]⟩
abbrev S1536x1024 : Shape := ⟨2, ![1536, 1024]⟩
abbrev S1x512x1024 : Shape := ⟨3, ![1, 512, 1024]⟩
abbrev S8x512x128 : Shape := ⟨3, ![8, 512, 128]⟩
abbrev S8x520x128 : Shape := ⟨3, ![8, 520, 128]⟩
abbrev S4x520x128 : Shape := ⟨3, ![4, 520, 128]⟩
abbrev S8x128 : Shape := ⟨2, ![8, 128]⟩
abbrev S1x8x128 : Shape := ⟨3, ![1, 8, 128]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S512x512 : Shape := ⟨2, ![512, 512]⟩
abbrev S1024x512 : Shape := ⟨2, ![1024, 512]⟩
abbrev S256x512 : Shape := ⟨2, ![256, 512]⟩
abbrev S512x256 : Shape := ⟨2, ![512, 256]⟩
abbrev S1024x256 : Shape := ⟨2, ![1024, 256]⟩
abbrev S256x256 : Shape := ⟨2, ![256, 256]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S1x128 : Shape := ⟨2, ![1, 128]⟩
abbrev S128x1024 : Shape := ⟨2, ![128, 1024]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S512x6144, .i32⟩
  | .hbm, ⟨3, _⟩ => ⟨S3x6144, .f32⟩
  | .hbm, ⟨4, _⟩ => ⟨S1x6144, .f32⟩
  | .hbm, ⟨5, _⟩ => ⟨S1536x1024, .i32⟩
  | .hbm, ⟨6, _⟩ => ⟨S1x1024, .f32⟩
  | .hbm, ⟨7, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S512x6144, .i32⟩
  | .local _ .vmem, ⟨4, _⟩ => ⟨S3x6144, .f32⟩
  | .local _ .vmem, ⟨5, _⟩ => ⟨S1x6144, .f32⟩
  | .local _ .vmem, ⟨6, _⟩ => ⟨S1536x1024, .i32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x512x128, .f32⟩
  | .local _ .vmem, ⟨11, _⟩ => ⟨S8x520x128, .f32⟩
  | .local _ .vmem, ⟨12, _⟩ => ⟨S8x520x128, .f32⟩
  | .local _ .vmem, ⟨13, _⟩ => ⟨S8x520x128, .f32⟩
  | .local _ .vmem, ⟨14, _⟩ => ⟨S8x520x128, .f32⟩
  | .local _ .vmem, ⟨15, _⟩ => ⟨S8x520x128, .f32⟩
  | .local _ .vmem, ⟨16, _⟩ => ⟨S4x520x128, .f32⟩
  | .local _ .vmem, ⟨17, _⟩ => ⟨S4x520x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x6144 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "gelu_cubic" => some ((80338380498831 / 2251799813685248 : ℝ) : EReal)
  | _ => none
-- ==== ReferenceIdeal.lean ====
abbrev S4x8192x1024 : Shape := ⟨3, ![4, 8192, 1024]⟩
abbrev S1x1024 : Shape := ⟨2, ![1, 1024]⟩
abbrev S512x6144 : Shape := ⟨2, ![512, 6144]⟩
abbrev S3x6144 : Shape := ⟨2, ![3, 6144]⟩
abbrev S1x6144 : Shape := ⟨2, ![1, 6144]⟩
abbrev S1536x1024 : Shape := ⟨2, ![1536, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S512x6144x2 : Shape := ⟨3, ![512, 6144, 2]⟩
abbrev S512x2x6144 : Shape := ⟨3, ![512, 2, 6144]⟩
abbrev S1024x6144 : Shape := ⟨2, ![1024, 6144]⟩
abbrev S4x8192x6144 : Shape := ⟨3, ![4, 8192, 6144]⟩
abbrev S6144 : Shape := ⟨1, ![6144]⟩
abbrev S4x8194x6144 : Shape := ⟨3, ![4, 8194, 6144]⟩
abbrev S1x1x6144 : Shape := ⟨3, ![1, 1, 6144]⟩
abbrev S4x8192x3072 : Shape := ⟨3, ![4, 8192, 3072]⟩
abbrev S1536x1024x2 : Shape := ⟨3, ![1536, 1024, 2]⟩
abbrev S1536x2x1024 : Shape := ⟨3, ![1536, 2, 1024]⟩
abbrev S3072x1024 : Shape := ⟨2, ![3072, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S512x6144, .i32⟩
  | .hbm, ⟨3, _⟩ => ⟨S3x6144, .f32⟩
  | .hbm, ⟨4, _⟩ => ⟨S1x6144, .f32⟩
  | .hbm, ⟨5, _⟩ => ⟨S1536x1024, .i32⟩
  | .hbm, ⟨6, _⟩ => ⟨S1x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S512x6144x2, .bf16⟩
  | .hbm, ⟨25, _⟩ => ⟨S512x2x6144, .bf16⟩
  | .hbm, ⟨26, _⟩ => ⟨S1024x6144, .bf16⟩
  | .hbm, ⟨27, _⟩ => ⟨S1024x6144, .f32⟩
  | .hbm, ⟨28, _⟩ => ⟨S4x8192x6144, .f32⟩
  | .hbm, ⟨29, _⟩ => ⟨S6144, .f32⟩
  | .hbm, ⟨30, _⟩ => ⟨S_, .i32⟩
  | .hbm, ⟨31, _⟩ => ⟨S_, .f32⟩
  | .hbm, ⟨32, _⟩ => ⟨S4x8194x6144, .f32⟩
  | .hbm, ⟨33, _⟩ => ⟨S1x6144, .f32⟩
  | .hbm, ⟨34, _⟩ => ⟨S6144, .f32⟩
  | .hbm, ⟨35, _⟩ => ⟨S4x8192x6144, .f32⟩
  | .hbm, ⟨36, _⟩ => ⟨S1x1x6144, .f32⟩
  | .hbm, ⟨37, _⟩ => ⟨S4x8192x6144, .f32⟩
  | .hbm, ⟨38, _⟩ => ⟨S4x8192x6144, .f32⟩
  | .hbm, ⟨39, _⟩ => ⟨S1x6144, .f32⟩
  | .hbm, ⟨40, _⟩ => ⟨S6144, .f32⟩
  | .hbm, ⟨41, _⟩ => ⟨S4x8192x6144, .f32⟩
  | .hbm, ⟨42, _⟩ => ⟨S1x1x6144, .f32⟩
  | .hbm, ⟨43, _⟩ => ⟨S4x8192x6144, .f32⟩
  | .hbm, ⟨44, _⟩ => ⟨S4x8192x6144, .f32⟩
  | .hbm, ⟨45, _⟩ => ⟨S4x8192x6144, .f32⟩
  | .hbm, ⟨46, _⟩ => ⟨S1x6144, .f32⟩
  | .hbm, ⟨47, _⟩ => ⟨S6144, .f32⟩
  | .hbm, ⟨48, _⟩ => ⟨S4x8192x6144, .f32⟩
  | .hbm, ⟨49, _⟩ => ⟨S1x1x6144, .f32⟩
  | .hbm, ⟨50, _⟩ => ⟨S4x8192x6144, .f32⟩
  | .hbm, ⟨51, _⟩ => ⟨S4x8192x6144, .f32⟩
  | .hbm, ⟨52, _⟩ => ⟨S4x8192x6144, .f32⟩
  | .hbm, ⟨53, _⟩ => ⟨S1x1x6144, .f32⟩
  | .hbm, ⟨54, _⟩ => ⟨S4x8192x6144, .f32⟩
  | .hbm, ⟨55, _⟩ => ⟨S4x8192x6144, .f32⟩
  | .hbm, ⟨56, _⟩ => ⟨S4x8192x3072, .f32⟩
  | .hbm, ⟨57, _⟩ => ⟨S4x8192x3072, .f32⟩
  | .hbm, ⟨58, _⟩ => ⟨S1536x1024x2, .bf16⟩
  | .hbm, ⟨59, _⟩ => ⟨S1536x2x1024, .bf16⟩
  | .hbm, ⟨60, _⟩ => ⟨S3072x1024, .bf16⟩
  | .hbm, ⟨61, _⟩ => ⟨S3072x1024, .f32⟩
  | .hbm, ⟨62, _⟩ => ⟨S_, .f32⟩
  | .hbm, ⟨63, _⟩ => ⟨S3072x1024, .f32⟩
  | .hbm, ⟨64, _⟩ => ⟨S3072x1024, .f32⟩
  | .hbm, ⟨65, _⟩ => ⟨S4x8192x3072, .f32⟩
  | .hbm, ⟨66, _⟩ => ⟨S4x8192x3072, .f32⟩
  | .hbm, ⟨67, _⟩ => ⟨S_, .f32⟩
  | .hbm, ⟨68, _⟩ => ⟨S4x8192x3072, .f32⟩
  | .hbm, ⟨69, _⟩ => ⟨S4x8192x3072, .f32⟩
  | .hbm, ⟨70, _⟩ => ⟨S4x8192x3072, .f32⟩
  | .hbm, ⟨71, _⟩ => ⟨S_, .f32⟩
  | .hbm, ⟨72, _⟩ => ⟨S4x8192x3072, .f32⟩
  | .hbm, ⟨73, _⟩ => ⟨S4x8192x3072, .f32⟩
  | .hbm, ⟨74, _⟩ => ⟨S4x8192x3072, .f32⟩
  | .hbm, ⟨75, _⟩ => ⟨S_, .f32⟩
  | .hbm, ⟨76, _⟩ => ⟨S4x8192x3072, .f32⟩
  | .hbm, ⟨77, _⟩ => ⟨S4x8192x3072, .f32⟩
  | .hbm, ⟨78, _⟩ => ⟨S_, .f32⟩
  | .hbm, ⟨79, _⟩ => ⟨S4x8192x3072, .f32⟩
  | .hbm, ⟨80, _⟩ => ⟨S4x8192x3072, .f32⟩
  | .hbm, ⟨81, _⟩ => ⟨S4x8192x3072, .f32⟩
  | .hbm, ⟨82, _⟩ => ⟨S4x8192x3072, .f32⟩
  | .hbm, ⟨83, _⟩ => ⟨S4x8192x1024, .f32⟩
  | .hbm, ⟨84, _⟩ => ⟨S4x8192x1024, .f32⟩
  | .hbm, ⟨85, _⟩ => ⟨S1024, .f32⟩
  | .hbm, ⟨86, _⟩ => ⟨S4x8192x1024, .f32⟩
  | .hbm, ⟨87, _⟩ => ⟨S_, .f32⟩
  | .hbm, ⟨88, _⟩ => ⟨S4x8192, .f32⟩
  | .hbm, ⟨89, _⟩ => ⟨S4x8192x1, .f32⟩
  | .hbm, ⟨90, _⟩ => ⟨S_, .f32⟩
  | .hbm, ⟨91, _⟩ => ⟨S4x8192x1, .f32⟩
  | .hbm, ⟨92, _⟩ => ⟨S4x8192x1, .f32⟩
  | .hbm, ⟨93, _⟩ => ⟨S_, .f32⟩
  | .hbm, ⟨94, _⟩ => ⟨S4x8192x1, .f32⟩
  | .hbm, ⟨95, _⟩ => ⟨S4x8192x1, .f32⟩
  | .hbm, ⟨96, _⟩ => ⟨S4x8192x1, .f32⟩
  | .hbm, ⟨97, _⟩ => ⟨S4x8192x1024, .f32⟩
  | .hbm, ⟨98, _⟩ => ⟨S4x8192x1024, .f32⟩
  | .hbm, ⟨99, _⟩ => ⟨S1x1x1024, .f32⟩
  | .hbm, ⟨100, _⟩ => ⟨S4x8192x1024, .f32⟩
  | .hbm, ⟨101, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Mixer.lean ====
abbrev S4x8192x1024 : Shape := ⟨3, ![4, 8192, 1024]⟩
abbrev S8192x128 : Shape := ⟨2, ![8192, 128]⟩
abbrev S1x1024 : Shape := ⟨2, ![1, 1024]⟩
abbrev S512x3072 : Shape := ⟨2, ![512, 3072]⟩
abbrev S4x512 : Shape := ⟨2, ![4, 512]⟩
abbrev S1x512 : Shape := ⟨2, ![1, 512]⟩
abbrev S2x128x512 : Shape := ⟨3, ![2, 128, 512]⟩
abbrev S512x1024 : Shape := ⟨2, ![512, 1024]⟩
abbrev S4x256x256 : Shape := ⟨3, ![4, 256, 256]⟩
abbrev S256x512 : Shape := ⟨2, ![256, 512]⟩
abbrev S1x1024x1024 : Shape := ⟨3, ![1, 1024, 1024]⟩
abbrev S1024x128 : Shape := ⟨2, ![1024, 128]⟩
abbrev S1032x512 : Shape := ⟨2, ![1032, 512]⟩
abbrev S1024x512 : Shape := ⟨2, ![1024, 512]⟩
abbrev S8x512 : Shape := ⟨2, ![8, 512]⟩
abbrev S4x128x128 : Shape := ⟨3, ![4, 128, 128]⟩
abbrev S1024x1024 : Shape := ⟨2, ![1024, 1024]⟩
abbrev S512 : Shape := ⟨1, ![512]⟩
abbrev S512x1 : Shape := ⟨2, ![512, 1]⟩
abbrev S512x512 : Shape := ⟨2, ![512, 512]⟩
abbrev S1024x256 : Shape := ⟨2, ![1024, 256]⟩
abbrev S1x128x512 : Shape := ⟨3, ![1, 128, 512]⟩
abbrev S128x512 : Shape := ⟨2, ![128, 512]⟩
abbrev S1x256 : Shape := ⟨2, ![1, 256]⟩
abbrev S1024 : Shape := ⟨1, ![1024]⟩
abbrev S1024x1 : Shape := ⟨2, ![1024, 1]⟩
abbrev S256x128 : Shape := ⟨2, ![256, 128]⟩
abbrev S256x256 : Shape := ⟨2, ![256, 256]⟩
abbrev S1x256x256 : Shape := ⟨3, ![1, 256, 256]⟩
abbrev S1x128x128 : Shape := ⟨3, ![1, 128, 128]⟩
abbrev S128x128 : Shape := ⟨2, ![128, 128]⟩
abbrev S256x384 : Shape := ⟨2, ![256, 384]⟩
abbrev S384x128 : Shape := ⟨2, ![384, 128]⟩
abbrev S1x128 : Shape := ⟨2, ![1, 128]⟩

abbrev nBuf : Space → Nat
  | .hbm => 18
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S8192x128, .f32⟩
  | .hbm, ⟨2, _⟩ => ⟨S8192x128, .f32⟩
  | .hbm, ⟨3, _⟩ => ⟨S1x1024, .f32⟩
  | .hbm, ⟨4, _⟩ => ⟨S512x3072, .i32⟩
  | .hbm, ⟨5, _⟩ => ⟨S4x512, .f32⟩
  | .hbm, ⟨6, _⟩ => ⟨S1x512, .f32⟩
  | .hbm, ⟨7, _⟩ => ⟨S2x128x512, .i32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x1024, .i32⟩
  | .hbm, ⟨14, _⟩ => ⟨S4x256x256, .f32⟩
  | .hbm, ⟨15, _⟩ => ⟨S256x512, .f32⟩
  | .hbm, ⟨16, _⟩ => ⟨S256x512, .f32⟩
  | .hbm, ⟨17, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S512x3072, .i32⟩
  | .local _ .vmem, ⟨8, _⟩ => ⟨S4x512, .f32⟩
  | .local _ .vmem, ⟨9, _⟩ => ⟨S1x512, .f32⟩
  | .local _ .vmem, ⟨10, _⟩ => ⟨S2x128x512, .i32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x1024, .i32⟩
  | .local _ .vmem, ⟨17, _⟩ => ⟨S4x256x256, .f32⟩
  | .local _ .vmem, ⟨18, _⟩ => ⟨S256x512, .f32⟩
  | .local _ .vmem, ⟨19, _⟩ => ⟨S256x512, .f32⟩
  | .local _ .vmem, ⟨20, _⟩ => ⟨S1x1024x1024, .f32⟩
  | .local _ .vmem, ⟨21, _⟩ => ⟨S1x1024x1024, .f32⟩
  | .local _ .vmem, ⟨22, _⟩ => ⟨S1032x512, .f32⟩
  | .local _ .vmem, ⟨23, _⟩ => ⟨S1024x512, .f32⟩
  | .local _ .vmem, ⟨24, _⟩ => ⟨S1024x512, .f32⟩
  | .local _ .vmem, ⟨25, _⟩ => ⟨S8x512, .f32⟩
  | .local _ .vmem, ⟨26, _⟩ => ⟨S1024x512, .f32⟩
  | .local _ .vmem, ⟨27, _⟩ => ⟨S1024x512, .f32⟩
  | .local _ .vmem, ⟨28, _⟩ => ⟨S1024x512, .bf16⟩
  | .local _ .vmem, ⟨29, _⟩ => ⟨S1024x512, .f32⟩
  | .local _ .vmem, ⟨30, _⟩ => ⟨S4x128x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨2, ![4, 8], ![false, false]⟩

def k0_mult1 : BitVec 32 :=
  let c0_i32_63 : BitVec 32 := 0#32
  let c8_i32 : BitVec 32 := 8#32
  let v158 : BitVec 32 := Scalar.muli c0_i32_63 c8_i32
  v158
def k0_off1 (c0_i32_63 : BitVec 32) : Fin 2 → Nat :=
  let c8_i32 : BitVec 32 := 8#32
  let v158 : BitVec 32 := Scalar.muli c0_i32_63 c8_i32
  let v159 : BitVec 32 := v158
  let v160 : Index := Scalar.indexCast v159
  let c0_64 : Index := 0#32
  ![v160.toNat, 0]
def k0_mult2 : BitVec 32 :=
  let c1_i32_73 : BitVec 32 := 1#32
  let c8_i32_74 : BitVec 32 := 8#32
  let v200 : BitVec 32 := Scalar.muli c1_i32_73 c8_i32_74
  v200
def k0_mult3 : BitVec 32 :=
  let c2_i32_87 : BitVec 32 := 2#32
  let c8_i32_88 : BitVec 32 := 8#32
  let v242 : BitVec 32 := Scalar.muli c2_i32_87 c8_i32_88
  v242
def k0_mult4 : BitVec 32 :=
  let c3_i32 : BitVec 32 := 3#32
  let c8_i32_101 : BitVec 32 := 8#32
  let v284 : BitVec 32 := Scalar.muli c3_i32 c8_i32_101
  v284
def k0_mult5 : BitVec 32 :=
  let c4_i32_114 : BitVec 32 := 4#32
  let c8_i32_115 : BitVec 32 := 8#32
  let v326 : BitVec 32 := Scalar.muli c4_i32_114 c8_i32_115
  v326
def k0_mult6 : BitVec 32 :=
  let c5_i32 : BitVec 32 := 5#32
  let c8_i32_128 : BitVec 32 := 8#32
  let v368 : BitVec 32 := Scalar.muli c5_i32 c8_i32_128
  v368
def k0_mult7 : BitVec 32 :=
  let c6_i32 : BitVec 32 := 6#32
  let c8_i32_141 : BitVec 32 := 8#32
  let v410 : BitVec 32 := Scalar.muli c6_i32 c8_i32_141
  v410
def k0_mult8 : BitVec 32 :=
  let c7_i32 : BitVec 32 := 7#32
  let c8_i32_154 : BitVec 32 := 8#32
  let v452 : BitVec 32 := Scalar.muli c7_i32 c8_i32_154
  v452
def k0_mult9 : BitVec 32 :=
  let c8_i32_167 : BitVec 32 := 8#32
  let c8_i32_168 : BitVec 32 := 8#32
  let v494 : BitVec 32 := Scalar.muli c8_i32_167 c8_i32_168
  v494
def k0_mult10 : BitVec 32 :=
  let c9_i32 : BitVec 32 := 9#32
  let c8_i32_181 : BitVec 32 := 8#32
  let v536 : BitVec 32 := Scalar.muli c9_i32 c8_i32_181
  v536
def k0_mult11 : BitVec 32 :=
  let c10_i32 : BitVec 32 := 10#32
  let c8_i32_194 : BitVec 32 := 8#32
  let v578 : BitVec 32 := Scalar.muli c10_i32 c8_i32_194
  v578
def k0_mult12 : BitVec 32 :=
  let c11_i32 : BitVec 32 := 11#32
  let c8_i32_207 : BitVec 32 := 8#32
  let v620 : BitVec 32 := Scalar.muli c11_i32 c8_i32_207
  v620
def k0_mult13 : BitVec 32 :=
  let c12_i32 : BitVec 32 := 12#32
  let c8_i32_220 : BitVec 32 := 8#32
  let v662 : BitVec 32 := Scalar.muli c12_i32 c8_i32_220
  v662
def k0_mult14 : BitVec 32 :=
  let c13_i32 : BitVec 32 := 13#32
  let c8_i32_233 : BitVec 32 := 8#32
  let v704 : BitVec 32 := Scalar.muli c13_i32 c8_i32_233
  v704
def k0_mult15 : BitVec 32 :=
  let c14_i32 : BitVec 32 := 14#32
  let c8_i32_246 : BitVec 32 := 8#32
  let v746 : BitVec 32 := Scalar.muli c14_i32 c8_i32_246
  v746
def k0_mult16 : BitVec 32 :=
  let c15_i32 : BitVec 32 := 15#32
  let c8_i32_259 : BitVec 32 := 8#32
  let v788 : BitVec 32 := Scalar.muli c15_i32 c8_i32_259
  v788
def k0_mult17 : BitVec 32 :=
  let c16_i32 : BitVec 32 := 16#32
  let c8_i32_272 : BitVec 32 := 8#32
  let v830 : BitVec 32 := Scalar.muli c16_i32 c8_i32_272
  v830
def k0_mult18 : BitVec 32 :=
  let c17_i32 : BitVec 32 := 17#32
  let c8_i32_285 : BitVec 32 := 8#32
  let v872 : BitVec 32 := Scalar.muli c17_i32 c8_i32_285
  v872
def k0_mult19 : BitVec 32 :=
  let c18_i32 : BitVec 32 := 18#32
  let c8_i32_298 : BitVec 32 := 8#32
  let v914 : BitVec 32 := Scalar.muli c18_i32 c8_i32_298
  v914
def k0_mult20 : BitVec 32 :=
  let c19_i32 : BitVec 32 := 19#32
  let c8_i32_311 : BitVec 32 := 8#32
  let v956 : BitVec 32 := Scalar.muli c19_i32 c8_i32_311
  v956
def k0_mult21 : BitVec 32 :=
  let c20_i32 : BitVec 32 := 20#32
  let c8_i32_324 : BitVec 32 := 8#32
  let v998 : BitVec 32 := Scalar.muli c20_i32 c8_i32_324
  v998
def k0_mult22 : BitVec 32 :=
  let c21_i32 : BitVec 32 := 21#32
  let c8_i32_337 : BitVec 32 := 8#32
  let v1040 : BitVec 32 := Scalar.muli c21_i32 c8_i32_337
  v1040
def k0_mult23 : BitVec 32 :=
  let c22_i32 : BitVec 32 := 22#32
  let c8_i32_350 : BitVec 32 := 8#32
  let v1082 : BitVec 32 := Scalar.muli c22_i32 c8_i32_350
  v1082
def k0_mult24 : BitVec 32 :=
  let c23_i32 : BitVec 32 := 23#32
  let c8_i32_363 : BitVec 32 := 8#32
  let v1124 : BitVec 32 := Scalar.muli c23_i32 c8_i32_363
  v1124
def k0_mult25 : BitVec 32 :=
  let c24_i32 : BitVec 32 := 24#32
  let c8_i32_376 : BitVec 32 := 8#32
  let v1166 : BitVec 32 := Scalar.muli c24_i32 c8_i32_376
  v1166
def k0_mult26 : BitVec 32 :=
  let c25_i32 : BitVec 32 := 25#32
  let c8_i32_389 : BitVec 32 := 8#32
  let v1208 : BitVec 32 := Scalar.muli c25_i32 c8_i32_389
  v1208
def k0_mult27 : BitVec 32 :=
  let c26_i32 : BitVec 32 := 26#32
  let c8_i32_402 : BitVec 32 := 8#32
  let v1250 : BitVec 32 := Scalar.muli c26_i32 c8_i32_402
  v1250
def k0_mult28 : BitVec 32 :=
  let c27_i32 : BitVec 32 := 27#32
  let c8_i32_415 : BitVec 32 := 8#32
  let v1292 : BitVec 32 := Scalar.muli c27_i32 c8_i32_415
  v1292
def k0_mult29 : BitVec 32 :=
  let c28_i32 : BitVec 32 := 28#32
  let c8_i32_428 : BitVec 32 := 8#32
  let v1334 : BitVec 32 := Scalar.muli c28_i32 c8_i32_428
  v1334
def k0_mult30 : BitVec 32 :=
  let c29_i32 : BitVec 32 := 29#32
  let c8_i32_441 : BitVec 32 := 8#32
  let v1376 : BitVec 32 := Scalar.muli c29_i32 c8_i32_441
  v1376
def k0_mult31 : BitVec 32 :=
  let c30_i32 : BitVec 32 := 30#32
  let c8_i32_454 : BitVec 32 := 8#32
  let v1418 : BitVec 32 := Scalar.muli c30_i32 c8_i32_454
  v1418
def k0_mult32 : BitVec 32 :=
  let c31_i32 : BitVec 32 := 31#32
  let c8_i32_467 : BitVec 32 := 8#32
  let v1460 : BitVec 32 := Scalar.muli c31_i32 c8_i32_467
  v1460
def k0_mult33 : BitVec 32 :=
  let c32_i32 : BitVec 32 := 32#32
  let c8_i32_480 : BitVec 32 := 8#32
  let v1502 : BitVec 32 := Scalar.muli c32_i32 c8_i32_480
  v1502
def k0_mult34 : BitVec 32 :=
  let c33_i32 : BitVec 32 := 33#32
  let c8_i32_493 : BitVec 32 := 8#32
  let v1544 : BitVec 32 := Scalar.muli c33_i32 c8_i32_493
  v1544
def k0_mult35 : BitVec 32 :=
  let c34_i32 : BitVec 32 := 34#32
  let c8_i32_506 : BitVec 32 := 8#32
  let v1586 : BitVec 32 := Scalar.muli c34_i32 c8_i32_506
  v1586
def k0_mult36 : BitVec 32 :=
  let c35_i32 : BitVec 32 := 35#32
  let c8_i32_519 : BitVec 32 := 8#32
  let v1628 : BitVec 32 := Scalar.muli c35_i32 c8_i32_519
  v1628
def k0_mult37 : BitVec 32 :=
  let c36_i32 : BitVec 32 := 36#32
  let c8_i32_532 : BitVec 32 := 8#32
  let v1670 : BitVec 32 := Scalar.muli c36_i32 c8_i32_532
  v1670
def k0_mult38 : BitVec 32 :=
  let c37_i32 : BitVec 32 := 37#32
  let c8_i32_545 : BitVec 32 := 8#32
  let v1712 : BitVec 32 := Scalar.muli c37_i32 c8_i32_545
  v1712
def k0_mult39 : BitVec 32 :=
  let c38_i32 : BitVec 32 := 38#32
  let c8_i32_558 : BitVec 32 := 8#32
  let v1754 : BitVec 32 := Scalar.muli c38_i32 c8_i32_558
  v1754
def k0_mult40 : BitVec 32 :=
  let c39_i32 : BitVec 32 := 39#32
  let c8_i32_571 : BitVec 32 := 8#32
  let v1796 : BitVec 32 := Scalar.muli c39_i32 c8_i32_571
  v1796
def k0_mult41 : BitVec 32 :=
  let c40_i32 : BitVec 32 := 40#32
  let c8_i32_584 : BitVec 32 := 8#32
  let v1838 : BitVec 32 := Scalar.muli c40_i32 c8_i32_584
  v1838
def k0_mult42 : BitVec 32 :=
  let c41_i32 : BitVec 32 := 41#32
  let c8_i32_597 : BitVec 32 := 8#32
  let v1880 : BitVec 32 := Scalar.muli c41_i32 c8_i32_597
  v1880
def k0_mult43 : BitVec 32 :=
  let c42_i32 : BitVec 32 := 42#32
  let c8_i32_610 : BitVec 32 := 8#32
  let v1922 : BitVec 32 := Scalar.muli c42_i32 c8_i32_610
  v1922
def k0_mult44 : BitVec 32 :=
  let c43_i32 : BitVec 32 := 43#32
  let c8_i32_623 : BitVec 32 := 8#32
  let v1964 : BitVec 32 := Scalar.muli c43_i32 c8_i32_623
  v1964
def k0_mult45 : BitVec 32 :=
  let c44_i32 : BitVec 32 := 44#32
  let c8_i32_636 : BitVec 32 := 8#32
  let v2006 : BitVec 32 := Scalar.muli c44_i32 c8_i32_636
  v2006
def k0_mult46 : BitVec 32 :=
  let c45_i32 : BitVec 32 := 45#32
  let c8_i32_649 : BitVec 32 := 8#32
  let v2048 : BitVec 32 := Scalar.muli c45_i32 c8_i32_649
  v2048
def k0_mult47 : BitVec 32 :=
  let c46_i32 : BitVec 32 := 46#32
  let c8_i32_662 : BitVec 32 := 8#32
  let v2090 : BitVec 32 := Scalar.muli c46_i32 c8_i32_662
  v2090
def k0_mult48 : BitVec 32 :=
  let c47_i32 : BitVec 32 := 47#32
  let c8_i32_675 : BitVec 32 := 8#32
  let v2132 : BitVec 32 := Scalar.muli c47_i32 c8_i32_675
  v2132
def k0_mult49 : BitVec 32 :=
  let c48_i32 : BitVec 32 := 48#32
  let c8_i32_688 : BitVec 32 := 8#32
  let v2174 : BitVec 32 := Scalar.muli c48_i32 c8_i32_688
  v2174
def k0_mult50 : BitVec 32 :=
  let c49_i32 : BitVec 32 := 49#32
  let c8_i32_701 : BitVec 32 := 8#32
  let v2216 : BitVec 32 := Scalar.muli c49_i32 c8_i32_701
  v2216
def k0_mult51 : BitVec 32 :=
  let c50_i32 : BitVec 32 := 50#32
  let c8_i32_714 : BitVec 32 := 8#32
  let v2258 : BitVec 32 := Scalar.muli c50_i32 c8_i32_714
  v2258
def k0_mult52 : BitVec 32 :=
  let c51_i32 : BitVec 32 := 51#32
  let c8_i32_727 : BitVec 32 := 8#32
  let v2300 : BitVec 32 := Scalar.muli c51_i32 c8_i32_727
  v2300
def k0_mult53 : BitVec 32 :=
  let c52_i32 : BitVec 32 := 52#32
  let c8_i32_740 : BitVec 32 := 8#32
  let v2342 : BitVec 32 := Scalar.muli c52_i32 c8_i32_740
  v2342
def k0_mult54 : BitVec 32 :=
  let c53_i32 : BitVec 32 := 53#32
  let c8_i32_753 : BitVec 32 := 8#32
  let v2384 : BitVec 32 := Scalar.muli c53_i32 c8_i32_753
  v2384
def k0_mult55 : BitVec 32 :=
  let c54_i32 : BitVec 32 := 54#32
  let c8_i32_766 : BitVec 32 := 8#32
  let v2426 : BitVec 32 := Scalar.muli c54_i32 c8_i32_766
  v2426
def k0_mult56 : BitVec 32 :=
  let c55_i32 : BitVec 32 := 55#32
  let c8_i32_779 : BitVec 32 := 8#32
  let v2468 : BitVec 32 := Scalar.muli c55_i32 c8_i32_779
  v2468
def k0_mult57 : BitVec 32 :=
  let c56_i32 : BitVec 32 := 56#32
  let c8_i32_792 : BitVec 32 := 8#32
  let v2510 : BitVec 32 := Scalar.muli c56_i32 c8_i32_792
  v2510
def k0_mult58 : BitVec 32 :=
  let c57_i32 : BitVec 32 := 57#32
  let c8_i32_805 : BitVec 32 := 8#32
  let v2552 : BitVec 32 := Scalar.muli c57_i32 c8_i32_805
  v2552
def k0_mult59 : BitVec 32 :=
  let c58_i32 : BitVec 32 := 58#32
  let c8_i32_818 : BitVec 32 := 8#32
  let v2594 : BitVec 32 := Scalar.muli c58_i32 c8_i32_818
  v2594
def k0_mult60 : BitVec 32 :=
  let c59_i32 : BitVec 32 := 59#32
  let c8_i32_831 : BitVec 32 := 8#32
  let v2636 : BitVec 32 := Scalar.muli c59_i32 c8_i32_831
  v2636
def k0_mult61 : BitVec 32 :=
  let c60_i32 : BitVec 32 := 60#32
  let c8_i32_844 : BitVec 32 := 8#32
  let v2678 : BitVec 32 := Scalar.muli c60_i32 c8_i32_844
  v2678
def k0_mult62 : BitVec 32 :=
  let c61_i32 : BitVec 32 := 61#32
  let c8_i32_857 : BitVec 32 := 8#32
  let v2720 : BitVec 32 := Scalar.muli c61_i32 c8_i32_857
  v2720
def k0_mult63 : BitVec 32 :=
  let c62_i32 : BitVec 32 := 62#32
  let c8_i32_870 : BitVec 32 := 8#32
  let v2762 : BitVec 32 := Scalar.muli c62_i32 c8_i32_870
  v2762
def k0_mult64 : BitVec 32 :=
  let c63_i32 : BitVec 32 := 63#32
  let c8_i32_883 : BitVec 32 := 8#32
  let v2804 : BitVec 32 := Scalar.muli c63_i32 c8_i32_883
  v2804
def k0_mult65 : BitVec 32 :=
  let c64_i32 : BitVec 32 := 64#32
  let c8_i32_896 : BitVec 32 := 8#32
  let v2846 : BitVec 32 := Scalar.muli c64_i32 c8_i32_896
  v2846
def k0_mult66 : BitVec 32 :=
  let c65_i32 : BitVec 32 := 65#32
  let c8_i32_909 : BitVec 32 := 8#32
  let v2888 : BitVec 32 := Scalar.muli c65_i32 c8_i32_909
  v2888
def k0_mult67 : BitVec 32 :=
  let c66_i32 : BitVec 32 := 66#32
  let c8_i32_922 : BitVec 32 := 8#32
  let v2930 : BitVec 32 := Scalar.muli c66_i32 c8_i32_922
  v2930
def k0_mult68 : BitVec 32 :=
  let c67_i32 : BitVec 32 := 67#32
  let c8_i32_935 : BitVec 32 := 8#32
  let v2972 : BitVec 32 := Scalar.muli c67_i32 c8_i32_935
  v2972
def k0_mult69 : BitVec 32 :=
  let c68_i32 : BitVec 32 := 68#32
  let c8_i32_948 : BitVec 32 := 8#32
  let v3014 : BitVec 32 := Scalar.muli c68_i32 c8_i32_948
  v3014
def k0_mult70 : BitVec 32 :=
  let c69_i32 : BitVec 32 := 69#32
  let c8_i32_961 : BitVec 32 := 8#32
  let v3056 : BitVec 32 := Scalar.muli c69_i32 c8_i32_961
  v3056
def k0_mult71 : BitVec 32 :=
  let c70_i32 : BitVec 32 := 70#32
  let c8_i32_974 : BitVec 32 := 8#32
  let v3098 : BitVec 32 := Scalar.muli c70_i32 c8_i32_974
  v3098
def k0_mult72 : BitVec 32 :=
  let c71_i32 : BitVec 32 := 71#32
  let c8_i32_987 : BitVec 32 := 8#32
  let v3140 : BitVec 32 := Scalar.muli c71_i32 c8_i32_987
  v3140
def k0_mult73 : BitVec 32 :=
  let c72_i32 : BitVec 32 := 72#32
  let c8_i32_1000 : BitVec 32 := 8#32
  let v3182 : BitVec 32 := Scalar.muli c72_i32 c8_i32_1000
  v3182
def k0_mult74 : BitVec 32 :=
  let c73_i32 : BitVec 32 := 73#32
  let c8_i32_1013 : BitVec 32 := 8#32
  let v3224 : BitVec 32 := Scalar.muli c73_i32 c8_i32_1013
  v3224
def k0_mult75 : BitVec 32 :=
  let c74_i32 : BitVec 32 := 74#32
  let c8_i32_1026 : BitVec 32 := 8#32
  let v3266 : BitVec 32 := Scalar.muli c74_i32 c8_i32_1026
  v3266
def k0_mult76 : BitVec 32 :=
  let c75_i32 : BitVec 32 := 75#32
  let c8_i32_1039 : BitVec 32 := 8#32
  let v3308 : BitVec 32 := Scalar.muli c75_i32 c8_i32_1039
  v3308
def k0_mult77 : BitVec 32 :=
  let c76_i32 : BitVec 32 := 76#32
  let c8_i32_1052 : BitVec 32 := 8#32
  let v3350 : BitVec 32 := Scalar.muli c76_i32 c8_i32_1052
  v3350
def k0_mult78 : BitVec 32 :=
  let c77_i32 : BitVec 32 := 77#32
  let c8_i32_1065 : BitVec 32 := 8#32
  let v3392 : BitVec 32 := Scalar.muli c77_i32 c8_i32_1065
  v3392
def k0_mult79 : BitVec 32 :=
  let c78_i32 : BitVec 32 := 78#32
  let c8_i32_1078 : BitVec 32 := 8#32
  let v3434 : BitVec 32 := Scalar.muli c78_i32 c8_i32_1078
  v3434
def k0_mult80 : BitVec 32 :=
  let c79_i32 : BitVec 32 := 79#32
  let c8_i32_1091 : BitVec 32 := 8#32
  let v3476 : BitVec 32 := Scalar.muli c79_i32 c8_i32_1091
  v3476
def k0_mult81 : BitVec 32 :=
  let c80_i32 : BitVec 32 := 80#32
  let c8_i32_1104 : BitVec 32 := 8#32
  let v3518 : BitVec 32 := Scalar.muli c80_i32 c8_i32_1104
  v3518
def k0_mult82 : BitVec 32 :=
  let c81_i32 : BitVec 32 := 81#32
  let c8_i32_1117 : BitVec 32 := 8#32
  let v3560 : BitVec 32 := Scalar.muli c81_i32 c8_i32_1117
  v3560
def k0_mult83 : BitVec 32 :=
  let c82_i32 : BitVec 32 := 82#32
  let c8_i32_1130 : BitVec 32 := 8#32
  let v3602 : BitVec 32 := Scalar.muli c82_i32 c8_i32_1130
  v3602
def k0_mult84 : BitVec 32 :=
  let c83_i32 : BitVec 32 := 83#32
  let c8_i32_1143 : BitVec 32 := 8#32
  let v3644 : BitVec 32 := Scalar.muli c83_i32 c8_i32_1143
  v3644
def k0_mult85 : BitVec 32 :=
  let c84_i32 : BitVec 32 := 84#32
  let c8_i32_1156 : BitVec 32 := 8#32
  let v3686 : BitVec 32 := Scalar.muli c84_i32 c8_i32_1156
  v3686
def k0_mult86 : BitVec 32 :=
  let c85_i32 : BitVec 32 := 85#32
  let c8_i32_1169 : BitVec 32 := 8#32
  let v3728 : BitVec 32 := Scalar.muli c85_i32 c8_i32_1169
  v3728
def k0_mult87 : BitVec 32 :=
  let c86_i32 : BitVec 32 := 86#32
  let c8_i32_1182 : BitVec 32 := 8#32
  let v3770 : BitVec 32 := Scalar.muli c86_i32 c8_i32_1182
  v3770
def k0_mult88 : BitVec 32 :=
  let c87_i32 : BitVec 32 := 87#32
  let c8_i32_1195 : BitVec 32 := 8#32
  let v3812 : BitVec 32 := Scalar.muli c87_i32 c8_i32_1195
  v3812
def k0_mult89 : BitVec 32 :=
  let c88_i32 : BitVec 32 := 88#32
  let c8_i32_1208 : BitVec 32 := 8#32
  let v3854 : BitVec 32 := Scalar.muli c88_i32 c8_i32_1208
  v3854
def k0_mult90 : BitVec 32 :=
  let c89_i32 : BitVec 32 := 89#32
  let c8_i32_1221 : BitVec 32 := 8#32
  let v3896 : BitVec 32 := Scalar.muli c89_i32 c8_i32_1221
  v3896
def k0_mult91 : BitVec 32 :=
  let c90_i32 : BitVec 32 := 90#32
  let c8_i32_1234 : BitVec 32 := 8#32
  let v3938 : BitVec 32 := Scalar.muli c90_i32 c8_i32_1234
  v3938
def k0_mult92 : BitVec 32 :=
  let c91_i32 : BitVec 32 := 91#32
  let c8_i32_1247 : BitVec 32 := 8#32
  let v3980 : BitVec 32 := Scalar.muli c91_i32 c8_i32_1247
  v3980
def k0_mult93 : BitVec 32 :=
  let c92_i32 : BitVec 32 := 92#32
  let c8_i32_1260 : BitVec 32 := 8#32
  let v4022 : BitVec 32 := Scalar.muli c92_i32 c8_i32_1260
  v4022
def k0_mult94 : BitVec 32 :=
  let c93_i32 : BitVec 32 := 93#32
  let c8_i32_1273 : BitVec 32 := 8#32
  let v4064 : BitVec 32 := Scalar.muli c93_i32 c8_i32_1273
  v4064
def k0_mult95 : BitVec 32 :=
  let c94_i32 : BitVec 32 := 94#32
  let c8_i32_1286 : BitVec 32 := 8#32
  let v4106 : BitVec 32 := Scalar.muli c94_i32 c8_i32_1286
  v4106
def k0_mult96 : BitVec 32 :=
  let c95_i32 : BitVec 32 := 95#32
  let c8_i32_1299 : BitVec 32 := 8#32
  let v4148 : BitVec 32 := Scalar.muli c95_i32 c8_i32_1299
  v4148
def k0_mult97 : BitVec 32 :=
  let c96_i32 : BitVec 32 := 96#32
  let c8_i32_1312 : BitVec 32 := 8#32
  let v4190 : BitVec 32 := Scalar.muli c96_i32 c8_i32_1312
  v4190
def k0_mult98 : BitVec 32 :=
  let c97_i32 : BitVec 32 := 97#32
  let c8_i32_1325 : BitVec 32 := 8#32
  let v4232 : BitVec 32 := Scalar.muli c97_i32 c8_i32_1325
  v4232
def k0_mult99 : BitVec 32 :=
  let c98_i32 : BitVec 32 := 98#32
  let c8_i32_1338 : BitVec 32 := 8#32
  let v4274 : BitVec 32 := Scalar.muli c98_i32 c8_i32_1338
  v4274
def k0_mult100 : BitVec 32 :=
  let c99_i32 : BitVec 32 := 99#32
  let c8_i32_1351 : BitVec 32 := 8#32
  let v4316 : BitVec 32 := Scalar.muli c99_i32 c8_i32_1351
  v4316
def k0_mult101 : BitVec 32 :=
  let c100_i32 : BitVec 32 := 100#32
  let c8_i32_1364 : BitVec 32 := 8#32
  let v4358 : BitVec 32 := Scalar.muli c100_i32 c8_i32_1364
  v4358
def k0_mult102 : BitVec 32 :=
  let c101_i32 : BitVec 32 := 101#32
  let c8_i32_1377 : BitVec 32 := 8#32
  let v4400 : BitVec 32 := Scalar.muli c101_i32 c8_i32_1377
  v4400
def k0_mult103 : BitVec 32 :=
  let c102_i32 : BitVec 32 := 102#32
  let c8_i32_1390 : BitVec 32 := 8#32
  let v4442 : BitVec 32 := Scalar.muli c102_i32 c8_i32_1390
  v4442
def k0_mult104 : BitVec 32 :=
  let c103_i32 : BitVec 32 := 103#32
  let c8_i32_1403 : BitVec 32 := 8#32
  let v4484 : BitVec 32 := Scalar.muli c103_i32 c8_i32_1403
  v4484
def k0_mult105 : BitVec 32 :=
  let c104_i32 : BitVec 32 := 104#32
  let c8_i32_1416 : BitVec 32 := 8#32
  let v4526 : BitVec 32 := Scalar.muli c104_i32 c8_i32_1416
  v4526
def k0_mult106 : BitVec 32 :=
  let c105_i32 : BitVec 32 := 105#32
  let c8_i32_1429 : BitVec 32 := 8#32
  let v4568 : BitVec 32 := Scalar.muli c105_i32 c8_i32_1429
  v4568
def k0_mult107 : BitVec 32 :=
  let c106_i32 : BitVec 32 := 106#32
  let c8_i32_1442 : BitVec 32 := 8#32
  let v4610 : BitVec 32 := Scalar.muli c106_i32 c8_i32_1442
  v4610
def k0_mult108 : BitVec 32 :=
  let c107_i32 : BitVec 32 := 107#32
  let c8_i32_1455 : BitVec 32 := 8#32
  let v4652 : BitVec 32 := Scalar.muli c107_i32 c8_i32_1455
  v4652
def k0_mult109 : BitVec 32 :=
  let c108_i32 : BitVec 32 := 108#32
  let c8_i32_1468 : BitVec 32 := 8#32
  let v4694 : BitVec 32 := Scalar.muli c108_i32 c8_i32_1468
  v4694
def k0_mult110 : BitVec 32 :=
  let c109_i32 : BitVec 32 := 109#32
  let c8_i32_1481 : BitVec 32 := 8#32
  let v4736 : BitVec 32 := Scalar.muli c109_i32 c8_i32_1481
  v4736
def k0_mult111 : BitVec 32 :=
  let c110_i32 : BitVec 32 := 110#32
  let c8_i32_1494 : BitVec 32 := 8#32
  let v4778 : BitVec 32 := Scalar.muli c110_i32 c8_i32_1494
  v4778
def k0_mult112 : BitVec 32 :=
  let c111_i32 : BitVec 32 := 111#32
  let c8_i32_1507 : BitVec 32 := 8#32
  let v4820 : BitVec 32 := Scalar.muli c111_i32 c8_i32_1507
  v4820
def k0_mult113 : BitVec 32 :=
  let c112_i32 : BitVec 32 := 112#32
  let c8_i32_1520 : BitVec 32 := 8#32
  let v4862 : BitVec 32 := Scalar.muli c112_i32 c8_i32_1520
  v4862
def k0_mult114 : BitVec 32 :=
  let c113_i32 : BitVec 32 := 113#32
  let c8_i32_1533 : BitVec 32 := 8#32
  let v4904 : BitVec 32 := Scalar.muli c113_i32 c8_i32_1533
  v4904
def k0_mult115 : BitVec 32 :=
  let c114_i32 : BitVec 32 := 114#32
  let c8_i32_1546 : BitVec 32 := 8#32
  let v4946 : BitVec 32 := Scalar.muli c114_i32 c8_i32_1546
  v4946
def k0_mult116 : BitVec 32 :=
  let c115_i32 : BitVec 32 := 115#32
  let c8_i32_1559 : BitVec 32 := 8#32
  let v4988 : BitVec 32 := Scalar.muli c115_i32 c8_i32_1559
  v4988
def k0_mult117 : BitVec 32 :=
  let c116_i32 : BitVec 32 := 116#32
  let c8_i32_1572 : BitVec 32 := 8#32
  let v5030 : BitVec 32 := Scalar.muli c116_i32 c8_i32_1572
  v5030
def k0_mult118 : BitVec 32 :=
  let c117_i32 : BitVec 32 := 117#32
  let c8_i32_1585 : BitVec 32 := 8#32
  let v5072 : BitVec 32 := Scalar.muli c117_i32 c8_i32_1585
  v5072
def k0_mult119 : BitVec 32 :=
  let c118_i32 : BitVec 32 := 118#32
  let c8_i32_1598 : BitVec 32 := 8#32
  let v5114 : BitVec 32 := Scalar.muli c118_i32 c8_i32_1598
  v5114
def k0_mult120 : BitVec 32 :=
  let c119_i32 : BitVec 32 := 119#32
  let c8_i32_1611 : BitVec 32 := 8#32
  let v5156 : BitVec 32 := Scalar.muli c119_i32 c8_i32_1611
  v5156
def k0_mult121 : BitVec 32 :=
  let c120_i32 : BitVec 32 := 120#32
  let c8_i32_1624 : BitVec 32 := 8#32
  let v5198 : BitVec 32 := Scalar.muli c120_i32 c8_i32_1624
  v5198
def k0_mult122 : BitVec 32 :=
  let c121_i32 : BitVec 32 := 121#32
  let c8_i32_1637 : BitVec 32 := 8#32
  let v5240 : BitVec 32 := Scalar.muli c121_i32 c8_i32_1637
  v5240
def k0_mult123 : BitVec 32 :=
  let c122_i32 : BitVec 32 := 122#32
  let c8_i32_1650 : BitVec 32 := 8#32
  let v5282 : BitVec 32 := Scalar.muli c122_i32 c8_i32_1650
  v5282
def k0_mult124 : BitVec 32 :=
  let c123_i32 : BitVec 32 := 123#32
  let c8_i32_1663 : BitVec 32 := 8#32
  let v5324 : BitVec 32 := Scalar.muli c123_i32 c8_i32_1663
  v5324
def k0_mult125 : BitVec 32 :=
  let c124_i32 : BitVec 32 := 124#32
  let c8_i32_1676 : BitVec 32 := 8#32
  let v5366 : BitVec 32 := Scalar.muli c124_i32 c8_i32_1676
  v5366
def k0_mult126 : BitVec 32 :=
  let c125_i32 : BitVec 32 := 125#32
  let c8_i32_1689 : BitVec 32 := 8#32
  let v5408 : BitVec 32 := Scalar.muli c125_i32 c8_i32_1689
  v5408
def k0_mult127 : BitVec 32 :=
  let c126_i32 : BitVec 32 := 126#32
  let c8_i32_1702 : BitVec 32 := 8#32
  let v5450 : BitVec 32 := Scalar.muli c126_i32 c8_i32_1702
  v5450
def k0_mult128 : BitVec 32 :=
  let c127_i32 : BitVec 32 := 127#32
  let c8_i32_1715 : BitVec 32 := 8#32
  let v5492 : BitVec 32 := Scalar.muli c127_i32 c8_i32_1715
  v5492
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x3072 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128x512 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PackUp.lean ====
abbrev S1024x6144 : Shape := ⟨2, ![1024, 6144]⟩
abbrev S512x6144 : Shape := ⟨2, ![512, 6144]⟩
abbrev S256x6144 : Shape := ⟨2, ![256, 6144]⟩
abbrev S128x6144 : Shape := ⟨2, ![128, 6144]⟩

abbrev nBuf : Space → Nat
  | .hbm => 2
  | .vmem => 4
  | .smem => 0
  | _ => 0

abbrev bufTy : (tb : Table) → Fin (tcTables nBuf tb) → BufTy
  | .hbm, ⟨0, _⟩ => ⟨S1024x6144, .f32⟩
  | .hbm, ⟨1, _⟩ => ⟨S512x6144, .i32⟩
  | .local _ .vmem, ⟨0, _⟩ => ⟨S256x6144, .f32⟩
  | .local _ .vmem, ⟨1, _⟩ => ⟨S256x6144, .f32⟩
  | .local _ .vmem, ⟨2, _⟩ => ⟨S128x6144, .i32⟩
  | .local _ .vmem, ⟨3, _⟩ => ⟨S128x6144, .i32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WordsUp.lean ====
abbrev S1024x6144 : Shape := ⟨2, ![1024, 6144]⟩
abbrev S512x2x6144 : Shape := ⟨3, ![512, 2, 6144]⟩
abbrev S512x6144x2 : Shape := ⟨3, ![512, 6144, 2]⟩
abbrev S512x6144 : Shape := ⟨2, ![512, 6144]⟩

abbrev nBuf : Space → Nat
  | .hbm => 5
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S1024x6144, .bf16⟩
  | .hbm, ⟨2, _⟩ => ⟨S512x2x6144, .bf16⟩
  | .hbm, ⟨3, _⟩ => ⟨S512x6144x2, .bf16⟩
  | .hbm, ⟨4, _⟩ => ⟨S512x6144, .i32⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== PackDown.lean ====
abbrev S3072x1024 : Shape := ⟨2, ![3072, 1024]⟩
abbrev S1536x1024 : Shape := ⟨2, ![1536, 1024]⟩
abbrev S768x1024 : Shape := ⟨2, ![768, 1024]⟩

abbrev nBuf : Space → Nat
  | .hbm => 2
  | .vmem => 4
  | .smem => 0
  | _ => 0

abbrev bufTy : (tb : Table) → Fin (tcTables nBuf tb) → BufTy
  | .hbm, ⟨0, _⟩ => ⟨S3072x1024, .f32⟩
  | .hbm, ⟨1, _⟩ => ⟨S1536x1024, .i32⟩
  | .local _ .vmem, ⟨0, _⟩ => ⟨S1536x1024, .f32⟩
  | .local _ .vmem, ⟨1, _⟩ => ⟨S1536x1024, .f32⟩
  | .local _ .vmem, ⟨2, _⟩ => ⟨S768x1024, .i32⟩
  | .local _ .vmem, ⟨3, _⟩ => ⟨S768x1024, .i32⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WordsDown.lean ====
abbrev S3072x1024 : Shape := ⟨2, ![3072, 1024]⟩
abbrev S_ : Shape := ⟨0, ![]⟩
abbrev S1536x2x1024 : Shape := ⟨3, ![1536, 2, 1024]⟩
abbrev S1536x1024x2 : Shape := ⟨3, ![1536, 1024, 2]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S_, .f32⟩
  | .hbm, ⟨2, _⟩ => ⟨S3072x1024, .f32⟩
  | .hbm, ⟨3, _⟩ => ⟨S3072x1024, .f32⟩
  | .hbm, ⟨4, _⟩ => ⟨S3072x1024, .bf16⟩
  | .hbm, ⟨5, _⟩ => ⟨S1536x2x1024, .bf16⟩
  | .hbm, ⟨6, _⟩ => ⟨S1536x1024x2, .bf16⟩
  | .hbm, ⟨7, _⟩ => ⟨S1536x1024, .i32⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [BitOps F]
-- ==== PackIn.lean ====
abbrev S1024x3072 : Shape := ⟨2, ![1024, 3072]⟩
abbrev S512x3072 : Shape := ⟨2, ![512, 3072]⟩
abbrev S256x3072 : Shape := ⟨2, ![256, 3072]⟩

abbrev nBuf : Space → Nat
  | .hbm => 2
  | .vmem => 4
  | .smem => 0
  | _ => 0

abbrev bufTy : (tb : Table) → Fin (tcTables nBuf tb) → BufTy
  | .hbm, ⟨0, _⟩ => ⟨S1024x3072, .f32⟩
  | .hbm, ⟨1, _⟩ => ⟨S512x3072, .i32⟩
  | .local _ .vmem, ⟨0, _⟩ => ⟨S512x3072, .f32⟩
  | .local _ .vmem, ⟨1, _⟩ => ⟨S512x3072, .f32⟩
  | .local _ .vmem, ⟨2, _⟩ => ⟨S256x3072, .i32⟩
  | .local _ .vmem, ⟨3, _⟩ => ⟨S256x3072, .i32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WordsIn.lean ====
abbrev S1024x3072 : Shape := ⟨2, ![1024, 3072]⟩
abbrev S512x2x3072 : Shape := ⟨3, ![512, 2, 3072]⟩
abbrev S512x3072x2 : Shape := ⟨3, ![512, 3072, 2]⟩
abbrev S512x3072 : Shape := ⟨2, ![512, 3072]⟩

abbrev nBuf : Space → Nat
  | .hbm => 5
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S1024x3072, .bf16⟩
  | .hbm, ⟨2, _⟩ => ⟨S512x2x3072, .bf16⟩
  | .hbm, ⟨3, _⟩ => ⟨S512x3072x2, .bf16⟩
  | .hbm, ⟨4, _⟩ => ⟨S512x3072, .i32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== PackOut.lean ====
abbrev S1024x1024 : Shape := ⟨2, ![1024, 1024]⟩
abbrev S512x1024 : Shape := ⟨2, ![512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1024x1024, .f32⟩
  | .hbm, ⟨1, _⟩ => ⟨S512x1024, .i32⟩
  | .local _ .vmem, ⟨0, _⟩ => ⟨S1024x1024, .f32⟩
  | .local _ .vmem, ⟨1, _⟩ => ⟨S512x1024, .i32⟩
  | _, _ => ⟨S1024x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== WordsOut.lean ====
abbrev S1024x1024 : Shape := ⟨2, ![1024, 1024]⟩
abbrev S512x2x1024 : Shape := ⟨3, ![512, 2, 1024]⟩
abbrev S512x1024x2 : Shape := ⟨3, ![512, 1024, 2]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S512x2x1024, .bf16⟩
  | .hbm, ⟨3, _⟩ => ⟨S512x1024x2, .bf16⟩
  | .hbm, ⟨4, _⟩ => ⟨S512x1024, .i32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== PackGates.lean ====
abbrev S512x512 : Shape := ⟨2, ![512, 512]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S256x512, .i32⟩
  | .local _ .vmem, ⟨0, _⟩ => ⟨S512x512, .f32⟩
  | .local _ .vmem, ⟨1, _⟩ => ⟨S256x512, .i32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== WordsGates.lean ====
abbrev S512x512 : Shape := ⟨2, ![512, 512]⟩
abbrev S256x2x512 : Shape := ⟨3, ![256, 2, 512]⟩
abbrev S256x512x2 : Shape := ⟨3, ![256, 512, 2]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .hbm, ⟨2, _⟩ => ⟨S256x2x512, .bf16⟩
  | .hbm, ⟨3, _⟩ => ⟨S256x512x2, .bf16⟩
  | .hbm, ⟨4, _⟩ => ⟨S256x512, .i32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== Proof.Channel.KernelRun.lean ====
module

public import proofs.«01_k».proof.Proof.Gen.Kernel.Frame
public import proofs.«01_k».proof.Proof.Gen.Kernel.Skeleton
public import Idealize.ShloMosaic.Lib.Tactic

@[expose] public section

set_option maxRecDepth 16384

noncomputable section

namespace Cert.Kernel.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The condition under which the body clears the carried rows: the first tile of a sequence. -/
abbrev first (i : grid0.Coords) : Prop := (Scalar.cmpi .ne (Scalar.extui (Scalar.cmpi .eq (BitVec.ofNat 32 (i 1).val) 0#32)) 0#32) = 1#1

set_option maxHeartbeats 8000000 in
set_option sl_exec.stridedRows true in
/-- One grid point, the first tile of a sequence: the body reads its inputs, leaves them as they were, and writes the buffers it owns. -/
theorem runA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole) (hc : first i)
    (x2 : Vec F S1x512x1024 .f32) (x3 : Vec F S1x1024 .f32) (x4 : Vec F S512x6144 .i32) (x5 : Vec F S3x6144 .f32) (x6 : Vec F S1x6144 .f32) (x7 : Vec F S1536x1024 .i32) (x8 : Vec F S1x1024 .f32) (E : Set ℕ) (K : PUnit → sProp 𝕄) :
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_channel_mixer_eq_skeleton]; unfold cc0_channel_mixer_skel
    simp only [k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexists _; isplitr
      swap
      · iexact H9
      · ipureintro; exact rfl
    isplitl [H10]
    · iexists _; iexists _; isplitr
      swap
      · iexact H10
      · ipureintro; exact rfl
    isplitl [H11]
    · iexists _; iexists _; isplitr
      swap
      · iexact H11
      · ipureintro; exact rfl
    isplitl [H12]
    · iexists _; iexists _; isplitr
      swap
      · iexact H12
      · ipureintro; exact rfl
    isplitl [H13]
    · iexists _; iexists _; isplitr
      swap
      · iexact H13
      · ipureintro; exact rfl
    isplitl [H14]
    · iexists _; iexists _; isplitr
      swap
      · iexact H14
      · ipureintro; exact rfl
    isplitl [H15]
    · iexists _; iexists _; isplitr
      swap
      · iexact H15
      · ipureintro; exact rfl
    isplitl [H16]
    · iexists _; iexists _; isplitr
      swap
      · iexact H16
      · ipureintro; exact rfl
    iexists _; iexists _; isplitr
    swap
    · iexact H17
    · ipureintro; exact rfl

set_option maxHeartbeats 8000000 in
set_option sl_exec.stridedRows true in
/-- The same at every other tile. -/
theorem runB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole) (hc : ¬first i)
    (x2 : Vec F S1x512x1024 .f32) (x3 : Vec F S1x1024 .f32) (x4 : Vec F S512x6144 .i32) (x5 : Vec F S3x6144 .f32) (x6 : Vec F S1x6144 .f32) (x7 : Vec F S1536x1024 .i32) (x8 : Vec F S1x1024 .f32) (E : Set ℕ) (K : PUnit → sProp 𝕄) :
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_channel_mixer_eq_skeleton]; unfold cc0_channel_mixer_skel
    simp only [k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexists _; isplitr
      swap
      · iexact H9
      · ipureintro; exact rfl
    isplitl [H10]
    · iexists _; iexists _; isplitr
      swap
      · iexact H10
      · ipureintro; exact rfl
    isplitl [H11]
    · iexists _; iexists _; isplitr
      swap
      · iexact H11
      · ipureintro; exact rfl
    isplitl [H12]
    · iexists _; iexists _; isplitr
      swap
      · iexact H12
      · ipureintro; exact rfl
    isplitl [H13]
    · iexists _; iexists _; isplitr
      swap
      · iexact H13
      · ipureintro; exact rfl
    isplitl [H14]
    · iexists _; iexists _; isplitr
      swap
      · iexact H14
      · ipureintro; exact rfl
    isplitl [H15]
    · iexists _; iexists _; isplitr
      swap
      · iexact H15
      · ipureintro; exact rfl
    isplitl [H16]
    · iexists _; iexists _; isplitr
      swap
      · iexact H16
      · ipureintro; exact rfl
    iexists _; iexists _; isplitr
    swap
    · iexact H17
    · ipureintro; exact rfl

/-- One grid point, whichever it is. -/
theorem run (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole)
    (x2 : Vec F S1x512x1024 .f32) (x3 : Vec F S1x1024 .f32) (x4 : Vec F S512x6144 .i32) (x5 : Vec F S3x6144 .f32) (x6 : Vec F S1x6144 .f32) (x7 : Vec F S1536x1024 .i32) (x8 : Vec F S1x1024 .f32) (E : Set ℕ) (K : PUnit → sProp 𝕄) :
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    by_cases hc : first i
    · exact runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 E K
    · exact runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 E K

end Cert.Kernel.Channel

end
-- ==== Proof.Channel.KernelFrame.lean ====
module

public import proofs.«01_k».proof.Proof.Channel.KernelRun
public import proofs.«01_k».proof.Proof.Gen.Kernel.Frame
public import Idealize.ShloMosaic.Lib.Pipeline.FrameBody
public import Idealize.ShloMosaic.Lib.WordCmp
public import Idealize.ShloMosaic.Lib.Claim

@[expose] public section

set_option maxRecDepth 16384

noncomputable section

namespace Cert.Kernel.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of one grid point -/

/-- The staging buffer of window 0 at point `t`. -/
abbrev ms0 (t : Fin cfg0.N) : Memref sig .tc .vmem S1x512x1024 .f32 := win0_0.stage (cfg0.slots t 0)
/-- The staging buffer of window 1 at point `t`. -/
abbrev ms1 (t : Fin cfg0.N) : Memref sig .tc .vmem S1x1024 .f32 := win0_1.stage (cfg0.slots t 1)
/-- The staging buffer of window 2 at point `t`. -/
abbrev ms2 (t : Fin cfg0.N) : Memref sig .tc .vmem S512x6144 .i32 := win0_2.stage (cfg0.slots t 2)
/-- The staging buffer of window 3 at point `t`. -/
abbrev ms3 (t : Fin cfg0.N) : Memref sig .tc .vmem S3x6144 .f32 := win0_3.stage (cfg0.slots t 3)
/-- The staging buffer of window 4 at point `t`. -/
abbrev ms4 (t : Fin cfg0.N) : Memref sig .tc .vmem S1x6144 .f32 := win0_4.stage (cfg0.slots t 4)
/-- The staging buffer of window 5 at point `t`. -/
abbrev ms5 (t : Fin cfg0.N) : Memref sig .tc .vmem S1536x1024 .i32 := win0_5.stage (cfg0.slots t 5)
/-- The staging buffer of window 6 at point `t`. -/
abbrev ms6 (t : Fin cfg0.N) : Memref sig .tc .vmem S1x1024 .f32 := win0_6.stage (cfg0.slots t 6)
/-- The staging buffer of window 7 at point `t`. -/
abbrev ms7 (t : Fin cfg0.N) : Memref sig .tc .vmem S1x512x1024 .f32 := win0_7.stage (cfg0.slots t 7)
/-- Scratch buffer 0. -/
abbrev sc0 : Memref sig .tc .vmem S8x512x128 .f32 := Memref.whole cc0_scratch0
/-- Scratch buffer 1. -/
abbrev sc1 : Memref sig .tc .vmem S8x520x128 .f32 := Memref.whole cc0_scratch1
/-- Scratch buffer 2. -/
abbrev sc2 : Memref sig .tc .vmem S8x520x128 .f32 := Memref.whole cc0_scratch2
/-- Scratch buffer 3. -/
abbrev sc3 : Memref sig .tc .vmem S8x520x128 .f32 := Memref.whole cc0_scratch3
/-- Scratch buffer 4. -/
abbrev sc4 : Memref sig .tc .vmem S8x520x128 .f32 := Memref.whole cc0_scratch4
/-- Scratch buffer 5. -/
abbrev sc5 : Memref sig .tc .vmem S8x520x128 .f32 := Memref.whole cc0_scratch5
/-- Scratch buffer 6. -/
abbrev sc6 : Memref sig .tc .vmem S4x520x128 .f32 := Memref.whole cc0_scratch6
/-- Scratch buffer 7. -/
abbrev sc7 : Memref sig .tc .vmem S4x520x128 .f32 := Memref.whole cc0_scratch7

/-- What the launch hands over: every scratch buffer at some contents, and the generator. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-! ## The proof data: the output is forgotten, every scratch buffer holds anything -/

/-- The output window is the one of which nothing is stated. -/
def forgets : Fin 8 → Bool := fun w => w.val == 7

/-- Between points the scratch buffers hold anything; after a point an input's staging buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d))

/-- The body is sound at every point, whichever side of its conditional the point takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6]
  rw [show (dats m 0 c).Φ t.succ = Pipeline.ΦA spec0 c from rfl, show (dats m 0 c).Φ t.castSucc = Pipeline.ΦA spec0 c from rfl, PhiA_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-! ## The run and the frame -/

set_option backward.isDefEq.respectTransparency.types false in
/-- The launch: every execution ends, with every input array unchanged and every semaphore at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩)
    (run_main_quiescent m ρ)

end Cert.Kernel.Channel

end
-- ==== Proof.Channel.Slab.lean ====
module

public import Idealize.ShloMosaic.Lib.Tactic
public import Idealize.ShloMosaic.Lib.Pointwise

/-! # Reading the rows a causal convolution needs out of one buffer

A buffer of `R` slabs holds, in each slab, eight carried rows followed by the 512 rows of the current tile.
This module says what a strided load of such a slab reads after a list of stores. -/

@[expose] public section

noncomputable section

namespace Slab

open Idealize.ShloMosaic

/-- Row `q` of a slab, counted from the first carried row: eight carried rows, then the rows of the tile. -/
def prev {α : Type} (U Y : ℕ → ℕ → α) (q c : ℕ) : α := if q < 8 then Y q c else U (q - 8) c

theorem prev_lo {α : Type} (U Y : ℕ → ℕ → α) (q c : ℕ) (h : q < 8) : prev U Y q c = Y q c := if_pos h
theorem prev_hi {α : Type} (U Y : ℕ → ℕ → α) (q c : ℕ) (h : ¬ q < 8) : prev U Y q c = U (q - 8) c := if_neg h

section Loads

variable {sig : RefSig} {κ : Kind} {sp : Space} {Val : EltTy → Type} {e : EltTy} {R : ℕ}

/-- After the stores `T`, the carried rows of slab `k` read as `Y`, whose columns start at `C`. -/
def Top (v : View sig κ sp ⟨3, ![R, 520, 128]⟩ e) (f : v.ty.Contents Val) (T : List (View.Piece Val ⟨3, ![R, 520, 128]⟩ e))
    (k : ℕ) (Y : ℕ → ℕ → Val e) (C : ℕ) : Prop :=
  ∀ i : (⟨3, ![R, 520, 128]⟩ : Shape).Idx, (i 0).val = k → (i 1).val < 8 →
    v.read Val (v.writes Val f T) i = Y (i 1).val (C + (i 2).val)

variable (v : View sig κ sp ⟨3, ![R, 520, 128]⟩ e) (f : v.ty.Contents Val)

/-- Before any store, the carried rows are what the buffer held. -/
theorem top_nil {k C : ℕ} {Y : ℕ → ℕ → Val e}
    (h : ∀ i : (⟨3, ![R, 520, 128]⟩ : Shape).Idx, (i 0).val = k → (i 1).val < 8 → v.read Val f i = Y (i 1).val (C + (i 2).val)) :
    Top v f [] k Y C := h

/-- A store into another slab leaves the carried rows of slab `k` as they were. -/
theorem top_skip {k k' o C : ℕ} {Y : ℕ → ℕ → Val e} {T : List (View.Piece Val ⟨3, ![R, 520, 128]⟩ e)} {n : ℕ}
    {h : ∀ a, (![k', o, 0] : Fin 3 → ℕ) a + (![1, n, 128] : Fin 3 → ℕ) a ≤ (⟨3, ![R, 520, 128]⟩ : Shape).size a}
    {w : (Rect.unit (s := ⟨3, ![R, 520, 128]⟩) ![k', o, 0] ![1, n, 128] h).shape.Idx → Val e} (hk : k' ≠ k)
    (ht : Top v f T k Y C) : Top v f (⟨Rect.unit ![k', o, 0] ![1, n, 128] h, w⟩ :: T) k Y C := by
  intro i h0 h1
  rw [View.read_writes_cons_miss_of_axis v f _ T i 0 k' 1 rfl rfl rfl (by omega)]
  exact ht i h0 h1

/-- A store over the carried rows of slab `k` leaves its payload there. -/
theorem top_hit {k C : ℕ} {Y : ℕ → ℕ → Val e} {T : List (View.Piece Val ⟨3, ![R, 520, 128]⟩ e)}
    {h : ∀ a, (![k, 0, 0] : Fin 3 → ℕ) a + (![1, 8, 128] : Fin 3 → ℕ) a ≤ (⟨3, ![R, 520, 128]⟩ : Shape).size a}
    {w : (⟨3, ![1, 8, 128]⟩ : Shape).Idx → Val e}
    (hw : ∀ x : (⟨3, ![1, 8, 128]⟩ : Shape).Idx, w x = Y (x 1).val (C + (x 2).val)) :
    Top v f (⟨Rect.unit ![k, 0, 0] ![1, 8, 128] h, w⟩ :: T) k Y C := by
  intro i h0 h1
  rw [View.read_writes_cons_hit_of_coords v f (Rect.unit ![k, 0, 0] ![1, 8, 128] h) w T (ix3 0 ⟨(i 1).val, h1⟩ (i 2)) i]
  · exact hw _
  · intro a
    match a with
    | ⟨0, _⟩ => show (i 0).val = k + 1 * 0; omega
    | ⟨1, _⟩ => show (i 1).val = 0 + 1 * (i 1).val; omega
    | ⟨2, _⟩ => show (i 2).val = 0 + 1 * (i 2).val; omega

/-- Just after the tile's rows are stored in slab `k`, an element of that slab is a carried row or a row of the tile. -/
theorem read_slab {k C : ℕ} {Y Ub : ℕ → ℕ → Val e} {T : List (View.Piece Val ⟨3, ![R, 520, 128]⟩ e)}
    {h : ∀ a, (![k, 8, 0] : Fin 3 → ℕ) a + (![1, 512, 128] : Fin 3 → ℕ) a ≤ (⟨3, ![R, 520, 128]⟩ : Shape).size a}
    {S : (⟨2, ![512, 128]⟩ : Shape).Idx → Val e}
    {h2 : (⟨2, ![512, 128]⟩ : Shape).ShapeCasts ⟨3, ![1, 512, 128]⟩}
    (hS : ∀ i, S i = Ub (i 0).val (C + (i 1).val))
    (i : (⟨3, ![R, 520, 128]⟩ : Shape).Idx) (hi : (i 0).val = k) (ht : (i 1).val < 8 → Top v f T k Y C) :
    v.read Val (v.writes Val f (⟨Rect.unit ![k, 8, 0] ![1, 512, 128] h,
      shapeCast ⟨3, ![1, 512, 128]⟩ S h2⟩ :: T)) i
      = prev Ub Y (i 1).val (C + (i 2).val) := by
  have hi1 : (i 1).val < 520 := (i 1).isLt
  by_cases hq : (i 1).val < 8
  · rw [prev_lo _ _ _ _ hq, View.read_writes_cons_miss_of_axis v f _ T i 1 8 512 rfl rfl rfl (by omega)]
    exact ht hq i hi hq
  · rw [prev_hi _ _ _ _ hq, View.read_writes_cons_hit_of_coords v f (Rect.unit ![k, 8, 0] ![1, 512, 128] h) _ T
      (ix3 0 ⟨(i 1).val - 8, by omega⟩ (i 2)) i]
    · have hp : shapeCast ⟨3, ![1, 512, 128]⟩ S h2 (ix3 0 ⟨(i 1).val - 8, by omega⟩ (i 2)) = S (ix2 ⟨(i 1).val - 8, by omega⟩ (i 2)) := by
        pointwise
      refine hp.trans ?_
      rw [hS]
      rfl
    · intro a
      match a with
      | ⟨0, _⟩ => show (i 0).val = k + 1 * 0; omega
      | ⟨1, _⟩ => show (i 1).val = 8 + 1 * ((i 1).val - 8); omega
      | ⟨2, _⟩ => show (i 2).val = 0 + 1 * (i 2).val; omega

/-- Every other row of slab `k` from row `o` on, read just after the tile's rows were stored there. -/
theorem load_rows {k C o : ℕ} {Y Ub : ℕ → ℕ → Val e} {T : List (View.Piece Val ⟨3, ![R, 520, 128]⟩ e)}
    {h : ∀ a, (![k, 8, 0] : Fin 3 → ℕ) a + (![1, 512, 128] : Fin 3 → ℕ) a ≤ (⟨3, ![R, 520, 128]⟩ : Shape).size a}
    {S : (⟨2, ![512, 128]⟩ : Shape).Idx → Val e}
    {h2 : (⟨2, ![512, 128]⟩ : Shape).ShapeCasts ⟨3, ![1, 512, 128]⟩}
    {h3 : ∀ a, (![1, 256, 128] : Fin 3 → ℕ) a = 0 ∨ (![k, o, 0] : Fin 3 → ℕ) a + (![1, 2, 1] : Fin 3 → ℕ) a * ((![1, 256, 128] : Fin 3 → ℕ) a - 1) < (⟨3, ![R, 520, 128]⟩ : Shape).size a}
    {h4 : (⟨3, ![1, 256, 128]⟩ : Shape).ShapeCasts ⟨2, ![256, 128]⟩}
    (hS : ∀ i, S i = Ub (i 0).val (C + (i 1).val)) (ht : o < 8 → Top v f T k Y C)
    (i : (⟨2, ![256, 128]⟩ : Shape).Idx) :
    shapeCast ⟨2, ![256, 128]⟩ (v.readAt Val (LoadRect.mk (s := ⟨3, ![R, 520, 128]⟩) ![k, o, 0] ![1, 256, 128] ![1, 2, 1] h3)
      (v.writes Val f (⟨Rect.unit ![k, 8, 0] ![1, 512, 128] h,
        shapeCast ⟨3, ![1, 512, 128]⟩ S h2⟩ :: T))) h4 i
      = prev Ub Y (o + 2 * (i 0).val) (C + (i 1).val) := by
  have hp : ∀ Z : (⟨3, ![1, 256, 128]⟩ : Shape).Idx → Val e, shapeCast ⟨2, ![256, 128]⟩ Z h4 i = Z (ix3 0 (i 0) (i 1)) := by
    intro Z
    pointwise
  rw [hp, View.readAt_apply, read_slab v f hS _ ?_ (fun hq => ht (lt_of_le_of_lt (Nat.le_add_right _ _) hq))]
  · congr 1
    show C + (0 + 1 * (i 1).val) = _; omega
  · show k + 1 * 0 = k; omega

/-- The same load where the stores cover what it reads. -/
theorem load_rows_cov [∀ e, Nonempty (Val e)] {k C o : ℕ} {Y Ub : ℕ → ℕ → Val e} {T : List (View.Piece Val ⟨3, ![R, 520, 128]⟩ e)}
    {h : ∀ a, (![k, 8, 0] : Fin 3 → ℕ) a + (![1, 512, 128] : Fin 3 → ℕ) a ≤ (⟨3, ![R, 520, 128]⟩ : Shape).size a}
    {S : (⟨2, ![512, 128]⟩ : Shape).Idx → Val e}
    {h2 : (⟨2, ![512, 128]⟩ : Shape).ShapeCasts ⟨3, ![1, 512, 128]⟩}
    {h3 : ∀ a, (![1, 256, 128] : Fin 3 → ℕ) a = 0 ∨ (![k, o, 0] : Fin 3 → ℕ) a + (![1, 2, 1] : Fin 3 → ℕ) a * ((![1, 256, 128] : Fin 3 → ℕ) a - 1) < (⟨3, ![R, 520, 128]⟩ : Shape).size a}
    {h4 : (⟨3, ![1, 256, 128]⟩ : Shape).ShapeCasts ⟨2, ![256, 128]⟩}
    (hS : ∀ i, S i = Ub (i 0).val (C + (i 1).val)) (ht : o < 8 → Top v v.junk T k Y C)
    (i : (⟨2, ![256, 128]⟩ : Shape).Idx) :
    shapeCast ⟨2, ![256, 128]⟩ (v.readCov (⟨Rect.unit ![k, 8, 0] ![1, 512, 128] h,
        shapeCast ⟨3, ![1, 512, 128]⟩ S h2⟩ :: T)
        (LoadRect.mk (s := ⟨3, ![R, 520, 128]⟩) ![k, o, 0] ![1, 256, 128] ![1, 2, 1] h3)) h4 i
      = prev Ub Y (o + 2 * (i 0).val) (C + (i 1).val) :=
  load_rows v v.junk hS ht i

/-- The last eight rows of the tile in slab `k`, as stored over the carried rows. -/
theorem load_tail [∀ e, Nonempty (Val e)] {k C : ℕ} {Ub : ℕ → ℕ → Val e} {T : List (View.Piece Val ⟨3, ![R, 520, 128]⟩ e)}
    {h : ∀ a, (![k, 8, 0] : Fin 3 → ℕ) a + (![1, 512, 128] : Fin 3 → ℕ) a ≤ (⟨3, ![R, 520, 128]⟩ : Shape).size a}
    {S : (⟨2, ![512, 128]⟩ : Shape).Idx → Val e}
    {h2 : (⟨2, ![512, 128]⟩ : Shape).ShapeCasts ⟨3, ![1, 512, 128]⟩}
    {h3 : ∀ a, (![k, 512, 0] : Fin 3 → ℕ) a + (![1, 8, 128] : Fin 3 → ℕ) a ≤ (⟨3, ![R, 520, 128]⟩ : Shape).size a}
    {h4 : (⟨3, ![1, 8, 128]⟩ : Shape).ShapeCasts ⟨2, ![8, 128]⟩}
    {h5 : (⟨2, ![8, 128]⟩ : Shape).ShapeCasts ⟨3, ![1, 8, 128]⟩}
    (hS : ∀ i, S i = Ub (i 0).val (C + (i 1).val)) (x : (⟨3, ![1, 8, 128]⟩ : Shape).Idx) :
    shapeCast ⟨3, ![1, 8, 128]⟩ (shapeCast ⟨2, ![8, 128]⟩ (v.readCov (⟨Rect.unit ![k, 8, 0] ![1, 512, 128] h,
        shapeCast ⟨3, ![1, 512, 128]⟩ S h2⟩ :: T)
        (Rect.unit (s := ⟨3, ![R, 520, 128]⟩) ![k, 512, 0] ![1, 8, 128] h3).toLoadRect) h4) h5 x
      = (fun r c => Ub (504 + r) c) (x 1).val (C + (x 2).val) := by
  have hp : ∀ Z : (⟨3, ![1, 8, 128]⟩ : Shape).Idx → Val e,
      shapeCast ⟨3, ![1, 8, 128]⟩ (shapeCast ⟨2, ![8, 128]⟩ Z h4) h5 x = Z x := by
    intro Z
    pointwise
  rw [hp]
  unfold View.readCov
  have h0 : (x 0).val < 1 := (x 0).isLt
  rw [View.readAt_apply, read_slab (Y := fun _ _ => Ub 0 0) v v.junk hS _ ?_ (fun hq => absurd hq ?_)]
  · rw [prev_hi]
    · show Ub (512 + 1 * (x 1).val - 8) (C + (0 + 1 * (x 2).val)) = Ub (504 + (x 1).val) (C + (x 2).val)
      congr 1 <;> omega
    · show ¬ 512 + 1 * (x 1).val < 8; omega
  · show k + 1 * (x 0).val = k; omega
  · show ¬ 512 + 1 * (x 1).val < 8; omega

end Loads

end Slab
-- ==== Proof.Channel.Tile.lean ====
module

public import proofs.«01_k».proof.Proof.Gen.KernelIdeal.Skeleton
public import proofs.«01_k».proof.Proof.Channel.Slab
public import Idealize.ShloMosaic.Lib.BitcastPair

/-! # What one tile computes, in extended reals

The channel mixer of one tile of 512 rows, written with plain functions of a row and a column, and each group of vector
operations of the kernel's body read as one of them. -/

@[expose] public section

set_option maxRecDepth 16384

noncomputable section

namespace Cert.KernelIdeal.Channel

open Idealize.ShloMosaic Cert.KernelIdeal Cert.KernelIdeal.Gen Slab

/-! ## The functions -/

/-- A matrix as a function of two naturals, zero outside. -/
def at2 {m n : ℕ} (X : (⟨2, ![m, n]⟩ : Shape).Idx → EReal) (r c : ℕ) : EReal :=
  if h : r < m ∧ c < n then X (ix2 ⟨r, h.1⟩ ⟨c, h.2⟩) else 0

/-- A matrix of words as a function of two naturals. -/
def atW {m n : ℕ} (X : (⟨2, ![m, n]⟩ : Shape).Idx → BitVec 32) (r c : ℕ) : BitVec 32 :=
  if h : r < m ∧ c < n then X (ix2 ⟨r, h.1⟩ ⟨c, h.2⟩) else 0

theorem at2_eq {m n : ℕ} (X : (⟨2, ![m, n]⟩ : Shape).Idx → EReal) (i : (⟨2, ![m, n]⟩ : Shape).Idx) {r c : ℕ}
    (hr : r = (i 0).val) (hc : c = (i 1).val) : at2 X r c = X i := by
  subst hr hc
  unfold at2
  rw [dif_pos ⟨(i 0).isLt, (i 1).isLt⟩]
  congr 1
  exact (eq_ix2 i).symm

theorem atW_eq {m n : ℕ} (X : (⟨2, ![m, n]⟩ : Shape).Idx → BitVec 32) (i : (⟨2, ![m, n]⟩ : Shape).Idx) {r c : ℕ}
    (hr : r = (i 0).val) (hc : c = (i 1).val) : atW X r c = X i := by
  subst hr hc
  unfold atW
  rw [dif_pos ⟨(i 0).isLt, (i 1).isLt⟩]
  congr 1
  exact (eq_ix2 i).symm

/-- The weight in row `r`, column `c` of a matrix packed two rows to a word: even rows in the low halves. -/
def wtT {m n : ℕ} (X : (⟨2, ![m, n]⟩ : Shape).Idx → BitVec 32) (r c : ℕ) : EReal :=
  Ideal.ofBits .bf16 ((atW X (r / 2) c).extractLsb' (16 * (r % 2)) 16)

/-- The constant of the cubic term, by its name. -/
def kap : EReal := (Named.named (F := Ideal) κ "gelu_cubic" (0x3D122279#32 : BitVec 32) : Ideal .f32)

/-- Row `r` of `x` divided by the root of its mean square, times the gain. -/
def nrmT (x : ℕ → ℕ → EReal) (g : ℕ → EReal) (r k : ℕ) : EReal :=
  x r k * Ideal.rsqrt (Ideal.div (∑ c ∈ Finset.range 1024, x r c * x r c) (Ideal.ofBits .f32 0x44800000#32)
    + Ideal.ofBits .f32 0x358637BD#32) * g k

/-- The up-projection of the normalised row. -/
def upT (x : ℕ → ℕ → EReal) (g : ℕ → EReal) (w : ℕ → ℕ → EReal) (r C : ℕ) : EReal :=
  ∑ k ∈ Finset.range 1024, nrmT x g r k * w k C

/-- The causal convolution of three taps at row `q` of the tile. -/
def convT (Ub Y W : ℕ → ℕ → EReal) (B : ℕ → EReal) (q C : ℕ) : EReal :=
  B C + W 2 C * prev Ub Y (8 + q) C + W 1 C * prev Ub Y (7 + q) C + W 0 C * prev Ub Y (6 + q) C

/-- Twice the gelu of `a`, times `v`. -/
def gateT (a v : EReal) : EReal :=
  a * v * (1 + Ideal.tanh (a * (Ideal.ofBits .f32 0x3F4C422A#32 + kap * (a * a))))

/-- The gated value of row `q` in column `d` of 3072. -/
def gatedT (Ub Y W : ℕ → ℕ → EReal) (B : ℕ → EReal) (q d : ℕ) : EReal :=
  gateT (convT Ub Y W B q d) (convT Ub Y W B q (3072 + d))

/-- The first `n` terms of the down-projection. -/
def downT (G D : ℕ → ℕ → EReal) (n q e : ℕ) : EReal := ∑ d ∈ Finset.range n, G q d * D d e

/-- The tile's row that row `ρ` of the gated matrix holds: even rows first, odd rows after. -/
def rowOf (ρ : ℕ) : ℕ := if ρ < 256 then 2 * ρ else 2 * (ρ - 256) + 1

/-! ## The operands -/

section Operands

variable {sig : RefSig} {κ' : Kind} {sp : Space}

/-- What a load of a memref's own contents reads. -/
theorem readAt_unread {s : Shape} {e : EltTy} (m : Memref sig κ' sp s e) (hm : m.IsWhole) (x : Vec Ideal s e) (r : LoadRect s)
    (j : r.shape.Idx) : m.view.readAt (Elt Ideal) r (hm.unread x) j = x (r.idx j) := by
  rw [View.readAt_apply, hm.read_unread]

/-- One row of a tap or bias, spread over the rows of a slab. -/
theorem spread_row {m : ℕ} {t C : ℕ} (a : Memref sig κ' sp ⟨2, ![m, 6144]⟩ .f32) (ha : a.IsWhole) (x : Vec Ideal ⟨2, ![m, 6144]⟩ .f32)
    {h : ∀ b, (![t, C] : Fin 2 → ℕ) b + (![1, 128] : Fin 2 → ℕ) b ≤ (⟨2, ![m, 6144]⟩ : Shape).size b}
    {h1 : S1x128.ShapeCasts S1x128} {h2 : S1x128.Broadcasts S256x128} (i : S256x128.Idx) :
    broadcastTo S256x128 (shapeCast S1x128 (a.view.readAt (Elt Ideal) (Rect.unit (s := ⟨2, ![m, 6144]⟩) ![t, C] ![1, 128] h).toLoadRect (ha.unread x)) h1) h2 i
      = at2 x t (C + (i 1).val) := by
  have hp : ∀ Z : S1x128.Idx → EReal, broadcastTo S256x128 (shapeCast S1x128 Z h1) h2 i = Z (ix2 0 (i 1)) := by
    intro Z
    pointwise
  refine (hp _).trans ?_
  rw [readAt_unread]
  refine (at2_eq _ _ ?_ ?_).symm
  · show t = t + 1 * 0; omega
  · show C + (i 1).val = C + 1 * (i 1).val; omega

/-- Two halves of a word, at an index of the unpacked matrix. -/
theorem unpack_apply {m m' n : ℕ} (Z : (⟨2, ![m, n]⟩ : Shape).Idx → BitVec 32) (h : (⟨2, ![m, n]⟩ : Shape).Bitcasts 32 ⟨2, ![m', n]⟩ 16)
    (hm : m' = 2 * m) (i : (⟨2, ![m', n]⟩ : Shape).Idx) :
    bitcastToFloat (F := Ideal) .bf16 (bitcast ⟨2, ![m', n]⟩ 16 Z h) i
      = Ideal.ofBits .bf16 ((Z (ix2 ⟨(i 0).val / 2, by have : (i 0).val < m' := (i 0).isLt; omega⟩ (i 1))).extractLsb' (16 * ((i 0).val % 2)) 16) := by
  show FloatOps.ofBits .bf16 (bitcast ⟨2, ![m', n]⟩ 16 Z h i) = _
  rw [bitcast_32_16]
  have hr : (⟨2, ![m', n]⟩ : Shape).row i = (i 0).val := rfl
  have hi : ∀ hp, h.srcIdx i ((⟨2, ![m', n]⟩ : Shape).row i / 2) hp
      = ix2 ⟨(i 0).val / 2, by have : (i 0).val < m' := (i 0).isLt; omega⟩ (i 1) := by
    intro hp
    funext b
    match b with
    | ⟨0, _⟩ => rfl
    | ⟨1, _⟩ => rfl
  rw [hi, hr]
  rfl

/-- A block of columns of the packed up-projection. -/
theorem up_block {n C : ℕ} (a : Memref sig κ' sp ⟨2, ![512, 6144]⟩ .i32) (ha : a.IsWhole) (x : Vec Ideal ⟨2, ![512, 6144]⟩ .i32)
    {h : ∀ b, (![0, C] : Fin 2 → ℕ) b + (![512, n] : Fin 2 → ℕ) b ≤ (⟨2, ![512, 6144]⟩ : Shape).size b}
    {h1 : (⟨2, ![512, n]⟩ : Shape).Bitcasts 32 ⟨2, ![1024, n]⟩ 16} (i : (⟨2, ![1024, n]⟩ : Shape).Idx) :
    bitcastToFloat (F := Ideal) .bf16 (bitcast ⟨2, ![1024, n]⟩ 16 (a.view.readAt (Elt Ideal) (Rect.unit (s := ⟨2, ![512, 6144]⟩) ![0, C] ![512, n] h).toLoadRect (ha.unread x)) h1) i
      = wtT x (i 0).val (C + (i 1).val) := by
  rw [unpack_apply _ _ (by norm_num)]
  unfold wtT
  congr 2
  rw [readAt_unread]
  refine (atW_eq _ _ ?_ ?_).symm
  · show (i 0).val / 2 = 0 + 1 * ((i 0).val / 2); omega
  · show C + (i 1).val = C + 1 * (i 1).val; omega

/-- A block of rows of the packed down-projection. -/
theorem down_block {m m' o : ℕ} (a : Memref sig κ' sp ⟨2, ![1536, 1024]⟩ .i32) (ha : a.IsWhole) (x : Vec Ideal ⟨2, ![1536, 1024]⟩ .i32)
    {h : ∀ b, (![o, 0] : Fin 2 → ℕ) b + (![m, 1024] : Fin 2 → ℕ) b ≤ (⟨2, ![1536, 1024]⟩ : Shape).size b}
    {h1 : (⟨2, ![m, 1024]⟩ : Shape).Bitcasts 32 ⟨2, ![m', 1024]⟩ 16} {n : ℕ} (hm : m' = 2 * m) (hn : n = 2 * o)
    (i : (⟨2, ![m', 1024]⟩ : Shape).Idx) :
    bitcastToFloat (F := Ideal) .bf16 (bitcast ⟨2, ![m', 1024]⟩ 16 (a.view.readAt (Elt Ideal) (Rect.unit (s := ⟨2, ![1536, 1024]⟩) ![o, 0] ![m, 1024] h).toLoadRect (ha.unread x)) h1) i
      = wtT x (n + (i 0).val) (i 1).val := by
  rw [unpack_apply _ _ hm]
  unfold wtT
  subst hn
  have hd : (2 * o + (i 0).val) / 2 = o + (i 0).val / 2 := by omega
  have hr : (2 * o + (i 0).val) % 2 = (i 0).val % 2 := by omega
  rw [hd, hr]
  congr 2
  rw [readAt_unread]
  refine (atW_eq _ _ ?_ ?_).symm
  · show o + (i 0).val / 2 = o + 1 * ((i 0).val / 2); omega
  · show (i 1).val = 0 + 1 * (i 1).val; omega

end Operands

/-! ## The normalised rows and the up-projection -/

theorem sum_fin_range {n : ℕ} (f : Fin n → EReal) (g : ℕ → EReal) (h : ∀ k : Fin n, f k = g k.val) :
    ∑ k : Fin n, f k = ∑ k ∈ Finset.range n, g k := by
  rw [Finset.sum_range]
  exact Finset.sum_congr rfl fun k _ => h k

/-- Half of the tile's rows, normalised. -/
theorem norm_half {o : ℕ} {x : ℕ → ℕ → EReal} {g : ℕ → EReal} {X : FVec Ideal S512x1024 .f32} {G : FVec Ideal S1x1024 .f32}
    {h0 : S512x1024.Slices ![o, 0] S256x1024} {h1 : S256x1024.Reduces [1] S256}
    {h3 : S256.ShapeCasts S256x1} {h4 : S256x1.Broadcasts S256x1024} {h5 : S1x1024.Broadcasts S256x1024}
    (hX : ∀ i, X i = x (i 0).val (i 1).val) (hG : ∀ i, G i = g (i 1).val) (i : S256x1024.Idx) :
    mulf (mulf (extractStridedSlice S256x1024 ![o, 0] X h0) (broadcastTo S256x1024 (rsqrt (addf (divf (shapeCast S256x1
      (multiReduction .add [1] S256 (mulf (extractStridedSlice S256x1024 ![o, 0] X h0) (extractStridedSlice S256x1024 ![o, 0] X h0)) 0x00000000#32 h1 (.inl rfl) rfl) h3)
      (broadcast S256x1 (Scalar.ofBits .f32 0x44800000#32))) (broadcast S256x1 (Scalar.ofBits .f32 0x358637BD#32)))) h4))
      (broadcastTo S256x1024 G h5) i = nrmT x g (o + (i 0).val) (i 1).val := by
  have hE : ∀ j, extractStridedSlice S256x1024 ![o, 0] X h0 j = x (o + (j 0).val) (j 1).val := by
    intro j
    unfold extractStridedSlice
    rw [hX]
    congr 1
    show 0 + (j 1).val = (j 1).val; omega
  generalize extractStridedSlice S256x1024 ![o, 0] X h0 = E at hE
  pointwise
  rw [hG, hE]
  unfold nrmT
  rw [sum_fin_range _ (fun c => x (o + (i 0).val) c * x (o + (i 0).val) c) fun k => by rw [hE]; rfl]
  rfl

/-- A block of 512 columns of the up-projection, the tile's two halves stacked. -/
theorem up_rows512 {C0 : ℕ} {x : ℕ → ℕ → EReal} {g : ℕ → EReal} {w : ℕ → ℕ → EReal} {a b : FVec Ideal S256x1024 .bf16} {W : FVec Ideal S1024x512 .bf16}
    {h : Shape.Concatenates [S256x512, S256x512] S512x512 0}
    (ha : ∀ i, a i = nrmT x g (0 + (i 0).val) (i 1).val) (hb : ∀ i, b i = nrmT x g (256 + (i 0).val) (i 1).val)
    (hW : ∀ i, W i = w (i 0).val (C0 + (i 1).val)) (i : S512x512.Idx) :
    concatenate S512x512 0 [⟨S256x512, matmul dot_S256x1024_S1024x512_S256x512_1_0_0_1_n_n none a W (constant S256x512 .f32 0x00000000#32)⟩,
      ⟨S256x512, matmul dot_S256x1024_S1024x512_S256x512_1_0_0_1_n_n none b W (constant S256x512 .f32 0x00000000#32)⟩] h i
      = upT x g w (i 0).val (C0 + (i 1).val) := by
  pointwise
  unfold upT
  split
  · refine sum_fin_range _ _ fun k => ?_
    rw [ha, hW, Nat.zero_add]
    rfl
  · refine sum_fin_range _ _ fun k => ?_
    rw [hb, hW]
    show nrmT x g (256 + ((i 0).val - 256)) k.val * _ = _
    rw [Nat.add_sub_cancel' (by omega)]
    rfl

/-- A block of 256 columns of the up-projection. -/
theorem up_rows256 {C0 : ℕ} {x : ℕ → ℕ → EReal} {g : ℕ → EReal} {w : ℕ → ℕ → EReal} {a b : FVec Ideal S256x1024 .bf16} {W : FVec Ideal S1024x256 .bf16}
    {h : Shape.Concatenates [S256x256, S256x256] S512x256 0}
    (ha : ∀ i, a i = nrmT x g (0 + (i 0).val) (i 1).val) (hb : ∀ i, b i = nrmT x g (256 + (i 0).val) (i 1).val)
    (hW : ∀ i, W i = w (i 0).val (C0 + (i 1).val)) (i : S512x256.Idx) :
    concatenate S512x256 0 [⟨S256x256, matmul dot_S256x1024_S1024x256_S256x256_1_0_0_1_n_n none a W (constant S256x256 .f32 0x00000000#32)⟩,
      ⟨S256x256, matmul dot_S256x1024_S1024x256_S256x256_1_0_0_1_n_n none b W (constant S256x256 .f32 0x00000000#32)⟩] h i
      = upT x g w (i 0).val (C0 + (i 1).val) := by
  pointwise
  unfold upT
  split
  · refine sum_fin_range _ _ fun k => ?_
    rw [ha, hW, Nat.zero_add]
    rfl
  · refine sum_fin_range _ _ fun k => ?_
    rw [hb, hW]
    show nrmT x g (256 + ((i 0).val - 256)) k.val * _ = _
    rw [Nat.add_sub_cancel' (by omega)]
    rfl

/-! ## One slab: convolution and gate -/

section SlabMath

variable {Ub Y W : ℕ → ℕ → EReal} {B : ℕ → EReal} {C : ℕ}

/-- The convolution at the even rows. -/
theorem conv_even {b w2 xe w1 xom w0 xem : FVec Ideal S256x128 .f32}
    (hb : ∀ i, b i = B (C + (i 1).val)) (h2 : ∀ i, w2 i = W 2 (C + (i 1).val)) (h1 : ∀ i, w1 i = W 1 (C + (i 1).val))
    (h0 : ∀ i, w0 i = W 0 (C + (i 1).val)) (he : ∀ i, xe i = prev Ub Y (8 + 2 * (i 0).val) (C + (i 1).val))
    (hom : ∀ i, xom i = prev Ub Y (7 + 2 * (i 0).val) (C + (i 1).val)) (hem : ∀ i, xem i = prev Ub Y (6 + 2 * (i 0).val) (C + (i 1).val))
    (i : S256x128.Idx) :
    addf (addf (addf b (mulf w2 xe)) (mulf w1 xom)) (mulf w0 xem) i = convT Ub Y W B (2 * (i 0).val) (C + (i 1).val) := by
  show b i + w2 i * xe i + w1 i * xom i + w0 i * xem i = _
  rw [hb, h2, h1, h0, he, hom, hem]
  rfl

/-- The convolution at the odd rows. -/
theorem conv_odd {b w2 xo w1 xe w0 xom : FVec Ideal S256x128 .f32}
    (hb : ∀ i, b i = B (C + (i 1).val)) (h2 : ∀ i, w2 i = W 2 (C + (i 1).val)) (h1 : ∀ i, w1 i = W 1 (C + (i 1).val))
    (h0 : ∀ i, w0 i = W 0 (C + (i 1).val)) (ho : ∀ i, xo i = prev Ub Y (9 + 2 * (i 0).val) (C + (i 1).val))
    (he : ∀ i, xe i = prev Ub Y (8 + 2 * (i 0).val) (C + (i 1).val)) (hom : ∀ i, xom i = prev Ub Y (7 + 2 * (i 0).val) (C + (i 1).val))
    (i : S256x128.Idx) :
    addf (addf (addf b (mulf w2 xo)) (mulf w1 xe)) (mulf w0 xom) i = convT Ub Y W B (2 * (i 0).val + 1) (C + (i 1).val) := by
  show b i + w2 i * xo i + w1 i * xe i + w0 i * xom i = _
  rw [hb, h2, h1, h0, he, hom, ho]
  unfold convT
  rw [show 8 + (2 * (i 0).val + 1) = 9 + 2 * (i 0).val by omega, show 7 + (2 * (i 0).val + 1) = 8 + 2 * (i 0).val by omega,
    show 6 + (2 * (i 0).val + 1) = 7 + 2 * (i 0).val by omega]

/-- The gated slab, even rows on top of odd rows. -/
theorem gate_slab {Cv : ℕ} {ce ve co vo : FVec Ideal S256x128 .f32} {h : Shape.Concatenates [S256x128, S256x128] S512x128 0}
    (hCv : Cv = 3072 + C)
    (hce : ∀ i, ce i = convT Ub Y W B (2 * (i 0).val) (C + (i 1).val)) (hve : ∀ i, ve i = convT Ub Y W B (2 * (i 0).val) (Cv + (i 1).val))
    (hco : ∀ i, co i = convT Ub Y W B (2 * (i 0).val + 1) (C + (i 1).val)) (hvo : ∀ i, vo i = convT Ub Y W B (2 * (i 0).val + 1) (Cv + (i 1).val))
    (i : S512x128.Idx) :
    concatenate S512x128 0 [⟨S256x128, mulf (mulf ce ve) (addf (broadcast S256x128 (Scalar.ofBits .f32 0x3F800000#32))
        (tanh (mulf ce (addf (broadcast S256x128 (Scalar.ofBits .f32 0x3F4C422A#32)) (mulf (broadcast S256x128 (Named.named κ "gelu_cubic" 0x3D122279#32)) (mulf ce ce))))))⟩,
      ⟨S256x128, mulf (mulf co vo) (addf (broadcast S256x128 (Scalar.ofBits .f32 0x3F800000#32))
        (tanh (mulf co (addf (broadcast S256x128 (Scalar.ofBits .f32 0x3F4C422A#32)) (mulf (broadcast S256x128 (Named.named κ "gelu_cubic" 0x3D122279#32)) (mulf co co))))))⟩] h i
      = gatedT Ub Y W B (rowOf (i 0).val) (C + (i 1).val) := by
  subst hCv
  pointwise
  unfold gatedT gateT rowOf kap
  split
  · rw [hce, hve]
    simp only [Nat.add_assoc]
    rfl
  · rw [hco, hvo]
    simp only [Nat.add_assoc]
    rfl

end SlabMath

/-! ## The down-projection, chunk by chunk -/

section Down

variable {G D : ℕ → ℕ → EReal} {n : ℕ}

theorem downT_add (n m q e : ℕ) : downT G D (n + m) q e = downT G D n q e + ∑ d ∈ Finset.range m, G q (n + d) * D (n + d) e :=
  Finset.sum_range_add _ n m

/-- The product of one chunk of 512 columns. -/
theorem dot512 {p0 p1 p2 p3 : FVec Ideal S512x128 .f32} {w : FVec Ideal S512x1024 .bf16}
    {h : Shape.Concatenates [S512x128, S512x128, S512x128, S512x128] S512x512 1} {h' : FTy.bf16.bits < FTy.f32.bits}
    (h0 : ∀ i, p0 i = G (rowOf (i 0).val) (n + (i 1).val)) (h1 : ∀ i, p1 i = G (rowOf (i 0).val) (n + 128 + (i 1).val))
    (h2 : ∀ i, p2 i = G (rowOf (i 0).val) (n + 256 + (i 1).val)) (h3 : ∀ i, p3 i = G (rowOf (i 0).val) (n + 384 + (i 1).val))
    (hw : ∀ i, w i = D (n + (i 0).val) (i 1).val) (i : S512x1024.Idx) :
    matmul dot_S512x512_S512x1024_S512x1024_1_0_0_1_n_n none (truncf .bf16 (concatenate S512x512 1 [⟨S512x128, p0⟩, ⟨S512x128, p1⟩, ⟨S512x128, p2⟩, ⟨S512x128, p3⟩] h) h')
      w (constant S512x1024 .f32 0x00000000#32) i = ∑ d ∈ Finset.range 512, G (rowOf (i 0).val) (n + d) * D (n + d) (i 1).val := by
  have hc : ∀ j : S512x512.Idx, truncf .bf16 (concatenate S512x512 1 [⟨S512x128, p0⟩, ⟨S512x128, p1⟩, ⟨S512x128, p2⟩, ⟨S512x128, p3⟩] h) h' j
      = G (rowOf (j 0).val) (n + (j 1).val) := by
    intro j
    pointwise
    split
    · rw [h0]; rfl
    split
    · rw [h1]; exact congrArg (G _) (by show n + 128 + ((j 1).val - 128) = n + (j 1).val; omega)
    split
    · rw [h2]; exact congrArg (G _) (by show n + 256 + ((j 1).val - 128 - 128) = n + (j 1).val; omega)
    · rw [h3]; exact congrArg (G _) (by show n + 384 + ((j 1).val - 128 - 128 - 128) = n + (j 1).val; omega)
  generalize truncf .bf16 (concatenate S512x512 1 [⟨S512x128, p0⟩, ⟨S512x128, p1⟩, ⟨S512x128, p2⟩, ⟨S512x128, p3⟩] h) h' = P at hc ⊢
  pointwise
  exact sum_fin_range _ _ fun k => by rw [hc, hw]; rfl

/-- The product of one chunk of 256 columns. -/
theorem dot256 {p0 p1 : FVec Ideal S512x128 .f32} {w : FVec Ideal S256x1024 .bf16}
    {h : Shape.Concatenates [S512x128, S512x128] S512x256 1} {h' : FTy.bf16.bits < FTy.f32.bits}
    (h0 : ∀ i, p0 i = G (rowOf (i 0).val) (n + (i 1).val)) (h1 : ∀ i, p1 i = G (rowOf (i 0).val) (n + 128 + (i 1).val))
    (hw : ∀ i, w i = D (n + (i 0).val) (i 1).val) (i : S512x1024.Idx) :
    matmul dot_S512x256_S256x1024_S512x1024_1_0_0_1_n_n none (truncf .bf16 (concatenate S512x256 1 [⟨S512x128, p0⟩, ⟨S512x128, p1⟩] h) h')
      w (constant S512x1024 .f32 0x00000000#32) i = ∑ d ∈ Finset.range 256, G (rowOf (i 0).val) (n + d) * D (n + d) (i 1).val := by
  have hc : ∀ j : S512x256.Idx, truncf .bf16 (concatenate S512x256 1 [⟨S512x128, p0⟩, ⟨S512x128, p1⟩] h) h' j
      = G (rowOf (j 0).val) (n + (j 1).val) := by
    intro j
    pointwise
    split
    · rw [h0]; rfl
    · rw [h1]; exact congrArg (G _) (by show n + 128 + ((j 1).val - 128) = n + (j 1).val; omega)
  generalize truncf .bf16 (concatenate S512x256 1 [⟨S512x128, p0⟩, ⟨S512x128, p1⟩] h) h' = P at hc ⊢
  pointwise
  exact sum_fin_range _ _ fun k => by rw [hc, hw]; rfl

/-- The first chunk alone. -/
theorem acc_first {P : FVec Ideal S512x1024 .f32}
    (hP : ∀ i, P i = ∑ d ∈ Finset.range 512, G (rowOf (i 0).val) (0 + d) * D (0 + d) (i 1).val) (i : S512x1024.Idx) :
    P i = downT G D 512 (rowOf (i 0).val) (i 1).val := by
  rw [hP]
  simp only [Nat.zero_add, downT]

/-- One more chunk. -/
theorem acc_next {m : ℕ} {A P : FVec Ideal S512x1024 .f32} (hA : ∀ i, A i = downT G D n (rowOf (i 0).val) (i 1).val)
    (hP : ∀ i, P i = ∑ d ∈ Finset.range m, G (rowOf (i 0).val) (n + d) * D (n + d) (i 1).val) (i : S512x1024.Idx) :
    addf A P i = downT G D (n + m) (rowOf (i 0).val) (i 1).val := by
  show A i + P i = _
  rw [hA, hP, downT_add]

end Down

end Cert.KernelIdeal.Channel
-- ==== Proof.Channel.Chunk.lean ====
module

public import proofs.«01_k».proof.Proof.Channel.Tile

/-! # One slab of a chunk, from the buffer to the gated rows

The loads of a slab, the convolution and the gate put together, so that a chunk of the kernel's body is read by one
lemma per slab. -/

@[expose] public section

set_option maxRecDepth 16384

noncomputable section

namespace Cert.KernelIdeal.Channel

open Idealize.ShloMosaic Cert.KernelIdeal Cert.KernelIdeal.Gen Slab

/-- The column of the up-projection that slab `k`'s first lane holds, in the buffer of the chunk that starts at column `c0`
    and has `n` slabs to a branch. -/
def colOf (n c0 k : ℕ) : ℕ := if k < n then c0 + 128 * k else 3072 + c0 + 128 * (k - n)

/-- A buffer's carried rows are the rows `Y` of the up-projection. -/
def Carried {R : ℕ} (y : (⟨3, ![R, 520, 128]⟩ : Shape).Idx → EReal) (n c0 : ℕ) (Y : ℕ → ℕ → EReal) : Prop :=
  ∀ i : (⟨3, ![R, 520, 128]⟩ : Shape).Idx, (i 1).val < 8 → y i = Y (i 1).val (colOf n c0 (i 0).val + (i 2).val)

section

variable {sig : RefSig} {κ' : Kind} {sp sp' : Space} {R : ℕ}

/-- Before any store of the tile, the carried rows are those the buffer was given with. -/
theorem top_base (m : Memref sig κ' sp ⟨3, ![R, 520, 128]⟩ .f32) (hm : m.IsWhole) {y : Vec Ideal ⟨3, ![R, 520, 128]⟩ .f32}
    {n c0 k C : ℕ} {Y : ℕ → ℕ → EReal} (hy : Carried y n c0 Y) (hC : C = colOf n c0 k) :
    Top (Val := Elt Ideal) m.view (hm.unread y) [] k Y C := by
  subst hC
  refine top_nil _ _ fun i h0 h1 => ?_
  rw [hm.read_unread, hy i h1, h0]

/-- Where the carried rows of slab `k` have been cleared they are zero. -/
theorem top_zero (v : View sig κ' sp ⟨3, ![R, 520, 128]⟩ .f32) (f : v.ty.Contents (Elt Ideal)) {k C : ℕ}
    {T : List (View.Piece (Elt Ideal) ⟨3, ![R, 520, 128]⟩ .f32)}
    {h : ∀ a, (![k, 0, 0] : Fin 3 → ℕ) a + (![1, 8, 128] : Fin 3 → ℕ) a ≤ (⟨3, ![R, 520, 128]⟩ : Shape).size a}
    {h1 : (⟨2, ![8, 128]⟩ : Shape).ShapeCasts ⟨3, ![1, 8, 128]⟩} :
    Top (Val := Elt Ideal) v f (⟨Rect.unit ![k, 0, 0] ![1, 8, 128] h,
      shapeCast ⟨3, ![1, 8, 128]⟩ (broadcast (⟨2, ![8, 128]⟩ : Shape) (Scalar.ofBits (F := Ideal) .f32 0x00000000#32)) h1⟩ :: T) k (fun _ _ => (0 : EReal)) C := by
  refine top_hit _ _ fun x => ?_
  pointwise

/-- The 128 columns of a block from its column `c` on. -/
theorem slice_rows {W C0 C c : ℕ} {Ub : ℕ → ℕ → EReal} {U : (⟨2, ![512, W]⟩ : Shape).Idx → EReal}
    {h : (⟨2, ![512, W]⟩ : Shape).Slices ![0, c] ⟨2, ![512, 128]⟩} (hU : ∀ i, U i = Ub (i 0).val (C0 + (i 1).val)) (hC : C = C0 + c)
    (i : (⟨2, ![512, 128]⟩ : Shape).Idx) : extractStridedSlice ⟨2, ![512, 128]⟩ ![0, c] U h i = Ub (i 0).val (C + (i 1).val) := by
  unfold extractStridedSlice
  rw [hU]
  congr 1
  · show 0 + (i 0).val = _; omega
  · show C0 + (c + (i 1).val) = _; omega

/-- A tile of one batch entry as a function of two naturals. -/
def at3 (X : (⟨3, ![1, 512, 1024]⟩ : Shape).Idx → EReal) (r c : ℕ) : EReal :=
  if h : r < 512 ∧ c < 1024 then X (ix3 0 ⟨r, h.1⟩ ⟨c, h.2⟩) else 0

/-- The tile's rows, as the body reads them. -/
theorem tile_rows (a : Memref sig κ' sp S1x512x1024 .f32) (ha : a.IsWhole) (x : Vec Ideal S1x512x1024 .f32)
    {h : ∀ b, (![0, 0, 0] : Fin 3 → ℕ) b + S1x512x1024.size b ≤ S1x512x1024.size b} {h1 : S1x512x1024.ShapeCasts S512x1024}
    (i : S512x1024.Idx) :
    shapeCast S512x1024 (a.view.readAt (Elt Ideal) (Rect.unit (s := S1x512x1024) ![0, 0, 0] S1x512x1024.size h).toLoadRect (ha.unread x)) h1 i
      = at3 x (i 0).val (i 1).val := by
  have hp : ∀ Z : S1x512x1024.Idx → EReal, shapeCast S512x1024 Z h1 i = Z (ix3 0 (i 0) (i 1)) := by
    intro Z
    pointwise
  refine (hp _).trans ?_
  rw [readAt_unread]
  unfold at3
  rw [dif_pos ⟨(i 0).isLt, (i 1).isLt⟩]
  congr 1
  funext b
  match b with
  | ⟨0, _⟩ => rfl
  | ⟨1, _⟩ => exact Fin.ext (show 0 + 1 * (i 0).val = (i 0).val by omega)
  | ⟨2, _⟩ => exact Fin.ext (show 0 + 1 * (i 1).val = (i 1).val by omega)

/-- The gain, as the body reads it. -/
theorem gain_row (a : Memref sig κ' sp S1x1024 .f32) (ha : a.IsWhole) (x : Vec Ideal S1x1024 .f32)
    {h : ∀ b, (![0, 0] : Fin 2 → ℕ) b + S1x1024.size b ≤ S1x1024.size b} (i : S1x1024.Idx) :
    a.view.readAt (Elt Ideal) (Rect.unit (s := S1x1024) ![0, 0] S1x1024.size h).toLoadRect (ha.unread x) i = at2 x 0 (i 1).val := by
  rw [readAt_unread]
  refine (at2_eq _ _ ?_ ?_).symm
  · show 0 = 0 + 1 * (i 0).val
    have : (i 0).val < 1 := (i 0).isLt
    omega
  · show (i 1).val = 0 + 1 * (i 1).val; omega

/-- Two halves of a slab make one. -/
theorem slabCat : Shape.Concatenates [S256x128, S256x128] S512x128 0 := by decide

theorem rowCast : S1x128.ShapeCasts S1x128 := by decide
theorem rowSpread : S1x128.Broadcasts S256x128 := by decide
theorem slabCast : (⟨2, ![512, 128]⟩ : Shape).ShapeCasts ⟨3, ![1, 512, 128]⟩ := by decide
theorem loadCast : (⟨3, ![1, 256, 128]⟩ : Shape).ShapeCasts ⟨2, ![256, 128]⟩ := by decide

/-- One gated slab, read off the two slabs of the buffer that hold its branches and the taps' and bias' columns. -/
theorem slab_gated (v : View sig κ' sp ⟨3, ![R, 520, 128]⟩ .f32) {f f' : v.ty.Contents (Elt Ideal)}
    {a5 : Memref sig κ' sp' ⟨2, ![3, 6144]⟩ .f32} {h5 : a5.IsWhole} {x5 : Vec Ideal ⟨2, ![3, 6144]⟩ .f32}
    {a6 : Memref sig κ' sp' ⟨2, ![1, 6144]⟩ .f32} {h6 : a6.IsWhole} {x6 : Vec Ideal ⟨2, ![1, 6144]⟩ .f32}
    {Ub Y : ℕ → ℕ → EReal} {C Cv kg kv : ℕ}
    {Tg Tv : List (View.Piece (Elt Ideal) ⟨3, ![R, 520, 128]⟩ .f32)} {Sg Sv : (⟨2, ![512, 128]⟩ : Shape).Idx → EReal}
    {qg : ∀ a, (![kg, 8, 0] : Fin 3 → ℕ) a + (![1, 512, 128] : Fin 3 → ℕ) a ≤ (⟨3, ![R, 520, 128]⟩ : Shape).size a}
    {qv : ∀ a, (![kv, 8, 0] : Fin 3 → ℕ) a + (![1, 512, 128] : Fin 3 → ℕ) a ≤ (⟨3, ![R, 520, 128]⟩ : Shape).size a}
    {lg8 : ∀ a, (![1, 256, 128] : Fin 3 → ℕ) a = 0 ∨ (![kg, 8, 0] : Fin 3 → ℕ) a + (![1, 2, 1] : Fin 3 → ℕ) a * ((![1, 256, 128] : Fin 3 → ℕ) a - 1) < (⟨3, ![R, 520, 128]⟩ : Shape).size a}
    {lg9 : ∀ a, (![1, 256, 128] : Fin 3 → ℕ) a = 0 ∨ (![kg, 9, 0] : Fin 3 → ℕ) a + (![1, 2, 1] : Fin 3 → ℕ) a * ((![1, 256, 128] : Fin 3 → ℕ) a - 1) < (⟨3, ![R, 520, 128]⟩ : Shape).size a}
    {lg7 : ∀ a, (![1, 256, 128] : Fin 3 → ℕ) a = 0 ∨ (![kg, 7, 0] : Fin 3 → ℕ) a + (![1, 2, 1] : Fin 3 → ℕ) a * ((![1, 256, 128] : Fin 3 → ℕ) a - 1) < (⟨3, ![R, 520, 128]⟩ : Shape).size a}
    {lg6 : ∀ a, (![1, 256, 128] : Fin 3 → ℕ) a = 0 ∨ (![kg, 6, 0] : Fin 3 → ℕ) a + (![1, 2, 1] : Fin 3 → ℕ) a * ((![1, 256, 128] : Fin 3 → ℕ) a - 1) < (⟨3, ![R, 520, 128]⟩ : Shape).size a}
    {lv8 : ∀ a, (![1, 256, 128] : Fin 3 → ℕ) a = 0 ∨ (![kv, 8, 0] : Fin 3 → ℕ) a + (![1, 2, 1] : Fin 3 → ℕ) a * ((![1, 256, 128] : Fin 3 → ℕ) a - 1) < (⟨3, ![R, 520, 128]⟩ : Shape).size a}
    {lv9 : ∀ a, (![1, 256, 128] : Fin 3 → ℕ) a = 0 ∨ (![kv, 9, 0] : Fin 3 → ℕ) a + (![1, 2, 1] : Fin 3 → ℕ) a * ((![1, 256, 128] : Fin 3 → ℕ) a - 1) < (⟨3, ![R, 520, 128]⟩ : Shape).size a}
    {lv7 : ∀ a, (![1, 256, 128] : Fin 3 → ℕ) a = 0 ∨ (![kv, 7, 0] : Fin 3 → ℕ) a + (![1, 2, 1] : Fin 3 → ℕ) a * ((![1, 256, 128] : Fin 3 → ℕ) a - 1) < (⟨3, ![R, 520, 128]⟩ : Shape).size a}
    {lv6 : ∀ a, (![1, 256, 128] : Fin 3 → ℕ) a = 0 ∨ (![kv, 6, 0] : Fin 3 → ℕ) a + (![1, 2, 1] : Fin 3 → ℕ) a * ((![1, 256, 128] : Fin 3 → ℕ) a - 1) < (⟨3, ![R, 520, 128]⟩ : Shape).size a}
    {wg0 : ∀ b, (![0, C] : Fin 2 → ℕ) b + (![1, 128] : Fin 2 → ℕ) b ≤ (⟨2, ![3, 6144]⟩ : Shape).size b}
    {wg1 : ∀ b, (![1, C] : Fin 2 → ℕ) b + (![1, 128] : Fin 2 → ℕ) b ≤ (⟨2, ![3, 6144]⟩ : Shape).size b}
    {wg2 : ∀ b, (![2, C] : Fin 2 → ℕ) b + (![1, 128] : Fin 2 → ℕ) b ≤ (⟨2, ![3, 6144]⟩ : Shape).size b}
    {wgb : ∀ b, (![0, C] : Fin 2 → ℕ) b + (![1, 128] : Fin 2 → ℕ) b ≤ (⟨2, ![1, 6144]⟩ : Shape).size b}
    {wv0 : ∀ b, (![0, Cv] : Fin 2 → ℕ) b + (![1, 128] : Fin 2 → ℕ) b ≤ (⟨2, ![3, 6144]⟩ : Shape).size b}
    {wv1 : ∀ b, (![1, Cv] : Fin 2 → ℕ) b + (![1, 128] : Fin 2 → ℕ) b ≤ (⟨2, ![3, 6144]⟩ : Shape).size b}
    {wv2 : ∀ b, (![2, Cv] : Fin 2 → ℕ) b + (![1, 128] : Fin 2 → ℕ) b ≤ (⟨2, ![3, 6144]⟩ : Shape).size b}
    {wvb : ∀ b, (![0, Cv] : Fin 2 → ℕ) b + (![1, 128] : Fin 2 → ℕ) b ≤ (⟨2, ![1, 6144]⟩ : Shape).size b}
    {ce ve co vo : FVec Ideal S256x128 .f32}
    (hce : ce = (addf (F := Ideal) (s := S256x128) (φ := .f32) (addf (addf (broadcastTo S256x128 (shapeCast S1x128 (a6.view.readAt (Elt Ideal) (Rect.unit (s := ⟨2, ![1, 6144]⟩) ![0, C] ![1, 128] wgb).toLoadRect (h6.unread x6)) rowCast) rowSpread)
        (mulf (broadcastTo S256x128 (shapeCast S1x128 (a5.view.readAt (Elt Ideal) (Rect.unit (s := ⟨2, ![3, 6144]⟩) ![2, C] ![1, 128] wg2).toLoadRect (h5.unread x5)) rowCast) rowSpread) (shapeCast ⟨2, ![256, 128]⟩ (v.readAt (Elt Ideal) (LoadRect.mk (s := ⟨3, ![R, 520, 128]⟩) ![kg, 8, 0] ![1, 256, 128] ![1, 2, 1] lg8)
          (v.writes (Elt Ideal) f' (⟨Rect.unit ![kg, 8, 0] ![1, 512, 128] qg, shapeCast ⟨3, ![1, 512, 128]⟩ Sg slabCast⟩ :: Tg))) loadCast)))
        (mulf (broadcastTo S256x128 (shapeCast S1x128 (a5.view.readAt (Elt Ideal) (Rect.unit (s := ⟨2, ![3, 6144]⟩) ![1, C] ![1, 128] wg1).toLoadRect (h5.unread x5)) rowCast) rowSpread) (shapeCast ⟨2, ![256, 128]⟩ (v.readAt (Elt Ideal) (LoadRect.mk (s := ⟨3, ![R, 520, 128]⟩) ![kg, 7, 0] ![1, 256, 128] ![1, 2, 1] lg7)
          (v.writes (Elt Ideal) f (⟨Rect.unit ![kg, 8, 0] ![1, 512, 128] qg, shapeCast ⟨3, ![1, 512, 128]⟩ Sg slabCast⟩ :: Tg))) loadCast)))
        (mulf (broadcastTo S256x128 (shapeCast S1x128 (a5.view.readAt (Elt Ideal) (Rect.unit (s := ⟨2, ![3, 6144]⟩) ![0, C] ![1, 128] wg0).toLoadRect (h5.unread x5)) rowCast) rowSpread) (shapeCast ⟨2, ![256, 128]⟩ (v.readAt (Elt Ideal) (LoadRect.mk (s := ⟨3, ![R, 520, 128]⟩) ![kg, 6, 0] ![1, 256, 128] ![1, 2, 1] lg6)
          (v.writes (Elt Ideal) f (⟨Rect.unit ![kg, 8, 0] ![1, 512, 128] qg, shapeCast ⟨3, ![1, 512, 128]⟩ Sg slabCast⟩ :: Tg))) loadCast))))
    (hve : ve = (addf (F := Ideal) (s := S256x128) (φ := .f32) (addf (addf (broadcastTo S256x128 (shapeCast S1x128 (a6.view.readAt (Elt Ideal) (Rect.unit (s := ⟨2, ![1, 6144]⟩) ![0, Cv] ![1, 128] wvb).toLoadRect (h6.unread x6)) rowCast) rowSpread)
        (mulf (broadcastTo S256x128 (shapeCast S1x128 (a5.view.readAt (Elt Ideal) (Rect.unit (s := ⟨2, ![3, 6144]⟩) ![2, Cv] ![1, 128] wv2).toLoadRect (h5.unread x5)) rowCast) rowSpread) (shapeCast ⟨2, ![256, 128]⟩ (v.readAt (Elt Ideal) (LoadRect.mk (s := ⟨3, ![R, 520, 128]⟩) ![kv, 8, 0] ![1, 256, 128] ![1, 2, 1] lv8)
          (v.writes (Elt Ideal) f' (⟨Rect.unit ![kv, 8, 0] ![1, 512, 128] qv, shapeCast ⟨3, ![1, 512, 128]⟩ Sv slabCast⟩ :: Tv))) loadCast)))
        (mulf (broadcastTo S256x128 (shapeCast S1x128 (a5.view.readAt (Elt Ideal) (Rect.unit (s := ⟨2, ![3, 6144]⟩) ![1, Cv] ![1, 128] wv1).toLoadRect (h5.unread x5)) rowCast) rowSpread) (shapeCast ⟨2, ![256, 128]⟩ (v.readAt (Elt Ideal) (LoadRect.mk (s := ⟨3, ![R, 520, 128]⟩) ![kv, 7, 0] ![1, 256, 128] ![1, 2, 1] lv7)
          (v.writes (Elt Ideal) f (⟨Rect.unit ![kv, 8, 0] ![1, 512, 128] qv, shapeCast ⟨3, ![1, 512, 128]⟩ Sv slabCast⟩ :: Tv))) loadCast)))
        (mulf (broadcastTo S256x128 (shapeCast S1x128 (a5.view.readAt (Elt Ideal) (Rect.unit (s := ⟨2, ![3, 6144]⟩) ![0, Cv] ![1, 128] wv0).toLoadRect (h5.unread x5)) rowCast) rowSpread) (shapeCast ⟨2, ![256, 128]⟩ (v.readAt (Elt Ideal) (LoadRect.mk (s := ⟨3, ![R, 520, 128]⟩) ![kv, 6, 0] ![1, 256, 128] ![1, 2, 1] lv6)
          (v.writes (Elt Ideal) f (⟨Rect.unit ![kv, 8, 0] ![1, 512, 128] qv, shapeCast ⟨3, ![1, 512, 128]⟩ Sv slabCast⟩ :: Tv))) loadCast))))
    (hco : co = (addf (F := Ideal) (s := S256x128) (φ := .f32) (addf (addf (broadcastTo S256x128 (shapeCast S1x128 (a6.view.readAt (Elt Ideal) (Rect.unit (s := ⟨2, ![1, 6144]⟩) ![0, C] ![1, 128] wgb).toLoadRect (h6.unread x6)) rowCast) rowSpread)
        (mulf (broadcastTo S256x128 (shapeCast S1x128 (a5.view.readAt (Elt Ideal) (Rect.unit (s := ⟨2, ![3, 6144]⟩) ![2, C] ![1, 128] wg2).toLoadRect (h5.unread x5)) rowCast) rowSpread) (shapeCast ⟨2, ![256, 128]⟩ (v.readAt (Elt Ideal) (LoadRect.mk (s := ⟨3, ![R, 520, 128]⟩) ![kg, 9, 0] ![1, 256, 128] ![1, 2, 1] lg9)
          (v.writes (Elt Ideal) f' (⟨Rect.unit ![kg, 8, 0] ![1, 512, 128] qg, shapeCast ⟨3, ![1, 512, 128]⟩ Sg slabCast⟩ :: Tg))) loadCast)))
        (mulf (broadcastTo S256x128 (shapeCast S1x128 (a5.view.readAt (Elt Ideal) (Rect.unit (s := ⟨2, ![3, 6144]⟩) ![1, C] ![1, 128] wg1).toLoadRect (h5.unread x5)) rowCast) rowSpread) (shapeCast ⟨2, ![256, 128]⟩ (v.readAt (Elt Ideal) (LoadRect.mk (s := ⟨3, ![R, 520, 128]⟩) ![kg, 8, 0] ![1, 256, 128] ![1, 2, 1] lg8)
          (v.writes (Elt Ideal) f' (⟨Rect.unit ![kg, 8, 0] ![1, 512, 128] qg, shapeCast ⟨3, ![1, 512, 128]⟩ Sg slabCast⟩ :: Tg))) loadCast)))
        (mulf (broadcastTo S256x128 (shapeCast S1x128 (a5.view.readAt (Elt Ideal) (Rect.unit (s := ⟨2, ![3, 6144]⟩) ![0, C] ![1, 128] wg0).toLoadRect (h5.unread x5)) rowCast) rowSpread) (shapeCast ⟨2, ![256, 128]⟩ (v.readAt (Elt Ideal) (LoadRect.mk (s := ⟨3, ![R, 520, 128]⟩) ![kg, 7, 0] ![1, 256, 128] ![1, 2, 1] lg7)
          (v.writes (Elt Ideal) f (⟨Rect.unit ![kg, 8, 0] ![1, 512, 128] qg, shapeCast ⟨3, ![1, 512, 128]⟩ Sg slabCast⟩ :: Tg))) loadCast))))
    (hvo : vo = (addf (F := Ideal) (s := S256x128) (φ := .f32) (addf (addf (broadcastTo S256x128 (shapeCast S1x128 (a6.view.readAt (Elt Ideal) (Rect.unit (s := ⟨2, ![1, 6144]⟩) ![0, Cv] ![1, 128] wvb).toLoadRect (h6.unread x6)) rowCast) rowSpread)
        (mulf (broadcastTo S256x128 (shapeCast S1x128 (a5.view.readAt (Elt Ideal) (Rect.unit (s := ⟨2, ![3, 6144]⟩) ![2, Cv] ![1, 128] wv2).toLoadRect (h5.unread x5)) rowCast) rowSpread) (shapeCast ⟨2, ![256, 128]⟩ (v.readAt (Elt Ideal) (LoadRect.mk (s := ⟨3, ![R, 520, 128]⟩) ![kv, 9, 0] ![1, 256, 128] ![1, 2, 1] lv9)
          (v.writes (Elt Ideal) f' (⟨Rect.unit ![kv, 8, 0] ![1, 512, 128] qv, shapeCast ⟨3, ![1, 512, 128]⟩ Sv slabCast⟩ :: Tv))) loadCast)))
        (mulf (broadcastTo S256x128 (shapeCast S1x128 (a5.view.readAt (Elt Ideal) (Rect.unit (s := ⟨2, ![3, 6144]⟩) ![1, Cv] ![1, 128] wv1).toLoadRect (h5.unread x5)) rowCast) rowSpread) (shapeCast ⟨2, ![256, 128]⟩ (v.readAt (Elt Ideal) (LoadRect.mk (s := ⟨3, ![R, 520, 128]⟩) ![kv, 8, 0] ![1, 256, 128] ![1, 2, 1] lv8)
          (v.writes (Elt Ideal) f' (⟨Rect.unit ![kv, 8, 0] ![1, 512, 128] qv, shapeCast ⟨3, ![1, 512, 128]⟩ Sv slabCast⟩ :: Tv))) loadCast)))
        (mulf (broadcastTo S256x128 (shapeCast S1x128 (a5.view.readAt (Elt Ideal) (Rect.unit (s := ⟨2, ![3, 6144]⟩) ![0, Cv] ![1, 128] wv0).toLoadRect (h5.unread x5)) rowCast) rowSpread) (shapeCast ⟨2, ![256, 128]⟩ (v.readAt (Elt Ideal) (LoadRect.mk (s := ⟨3, ![R, 520, 128]⟩) ![kv, 7, 0] ![1, 256, 128] ![1, 2, 1] lv7)
          (v.writes (Elt Ideal) f (⟨Rect.unit ![kv, 8, 0] ![1, 512, 128] qv, shapeCast ⟨3, ![1, 512, 128]⟩ Sv slabCast⟩ :: Tv))) loadCast))))
    (hSg : ∀ i, Sg i = Ub (i 0).val (C + (i 1).val)) (hSv : ∀ i, Sv i = Ub (i 0).val (Cv + (i 1).val))
    (hV : Cv = 3072 + C)
    (tg : Top (Val := Elt Ideal) v f Tg kg Y C) (tv : Top (Val := Elt Ideal) v f Tv kv Y Cv) (i : S512x128.Idx) :
    concatenate S512x128 0 [⟨S256x128, mulf (mulf ce ve) (addf (broadcast S256x128 (Scalar.ofBits .f32 0x3F800000#32))
        (tanh (mulf ce (addf (broadcast S256x128 (Scalar.ofBits .f32 0x3F4C422A#32)) (mulf (broadcast S256x128 (Named.named κ "gelu_cubic" 0x3D122279#32)) (mulf ce ce))))))⟩,
      ⟨S256x128, mulf (mulf co vo) (addf (broadcast S256x128 (Scalar.ofBits .f32 0x3F800000#32))
        (tanh (mulf co (addf (broadcast S256x128 (Scalar.ofBits .f32 0x3F4C422A#32)) (mulf (broadcast S256x128 (Named.named κ "gelu_cubic" 0x3D122279#32)) (mulf co co))))))⟩] slabCat i
      = gatedT Ub Y (at2 x5) (at2 x6 0) (rowOf (i 0).val) (C + (i 1).val) := by
  have row : ∀ {m t C : ℕ} (a : Memref sig κ' sp' ⟨2, ![m, 6144]⟩ .f32) (ha : a.IsWhole) (x : Vec Ideal ⟨2, ![m, 6144]⟩ .f32) (w)
      (i : S256x128.Idx), broadcastTo S256x128 (shapeCast S1x128 (a.view.readAt (Elt Ideal) (Rect.unit (s := ⟨2, ![m, 6144]⟩) ![t, C] ![1, 128] w).toLoadRect (ha.unread x)) rowCast) rowSpread i
      = at2 x t (C + (i 1).val) := fun a ha x w i => spread_row a ha x i
  subst hce hve hco hvo
  refine gate_slab hV ?_ ?_ ?_ ?_ i
  · exact conv_even (row a6 h6 x6 _) (row a5 h5 x5 _) (row a5 h5 x5 _) (row a5 h5 x5 _) (load_rows v f' hSg (fun h => absurd h (by decide)))
      (load_rows v f hSg fun _ => tg) (load_rows v f hSg fun _ => tg)
  · exact conv_even (row a6 h6 x6 _) (row a5 h5 x5 _) (row a5 h5 x5 _) (row a5 h5 x5 _) (load_rows v f' hSv (fun h => absurd h (by decide)))
      (load_rows v f hSv fun _ => tv) (load_rows v f hSv fun _ => tv)
  · exact conv_odd (row a6 h6 x6 _) (row a5 h5 x5 _) (row a5 h5 x5 _) (row a5 h5 x5 _) (load_rows v f' hSg (fun h => absurd h (by decide)))
      (load_rows v f' hSg (fun h => absurd h (by decide))) (load_rows v f hSg fun _ => tg)
  · exact conv_odd (row a6 h6 x6 _) (row a5 h5 x5 _) (row a5 h5 x5 _) (row a5 h5 x5 _) (load_rows v f' hSv (fun h => absurd h (by decide)))
      (load_rows v f' hSv (fun h => absurd h (by decide))) (load_rows v f hSv fun _ => tv)

end

end Cert.KernelIdeal.Channel
-- ==== Proof.Channel.Kept.lean ====
module

public import proofs.«01_k».proof.Proof.Channel.Chunk
public import proofs.«01_k».proof.Proof.Gen.KernelIdeal.Frame
public import Idealize.ShloMosaic.Lib.Pipeline.FrameBody

@[expose] public section

set_option maxRecDepth 16384

noncomputable section

namespace Cert.KernelIdeal.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- Rows that agree are carried alike. -/
theorem Carried.congr {R : ℕ} {y : (⟨3, ![R, 520, 128]⟩ : Shape).Idx → EReal} {n c0 : ℕ} {Y Z : ℕ → ℕ → EReal} (h : Carried y n c0 Y)
    (hY : ∀ r C, r < 8 → Y r C = Z r C) : Carried y n c0 Z := fun i hi => (h i hi).trans (hY _ _ hi)

/-- A scratch buffer at some contents whose carried rows are the rows `Y`. -/
def kept {R : ℕ} (c : Dev nD) (a : Memref sig .tc .vmem (⟨3, ![R, 520, 128]⟩ : Shape) .f32) (n c0 : ℕ) (Y : ℕ → ℕ → EReal) : sProp 𝕄 :=
  iprop(∃ d, ⌜Carried d n c0 Y⌝ ∗ owns (c : Thread nD τ) a fullShare d)

theorem kept_def {R : ℕ} (c : Dev nD) (a : Memref sig .tc .vmem (⟨3, ![R, 520, 128]⟩ : Shape) .f32) (n c0 : ℕ) (Y : ℕ → ℕ → EReal) :
    (kept c a n c0 Y : sProp 𝕄) = iprop(∃ d, ⌜Carried d n c0 Y⌝ ∗ owns (c : Thread nD τ) a fullShare d) := rfl

section

variable {s : Shape} {e : EltTy} (c : Dev nD) (a : Memref sig .tc .vmem s e) (L : List (View.Piece (Elt Ideal) s e))

/-- A buffer written through is owned at what the pieces leave. -/
theorem owns_of_writes (T : Vec Ideal s e) (h : ∀ f, a.view.read (Elt Ideal) (a.view.writes (Elt Ideal) f L) = T) :
    iprop(∃ f, a.view.loc (c : Thread nD τ) ↦[a.view.set]{fullShare} a.view.writes (Elt Ideal) f L)
      ⊢ (owns (c : Thread nD τ) a fullShare T : sProp 𝕄) := by
  iintro ⟨%f, H⟩
  unfold owns
  iexists _; isplitr
  swap
  · iexact H
  · ipureintro; exact h f

/-- A buffer written through is owned at some contents. -/
theorem some_of_writes :
    iprop(∃ f, a.view.loc (c : Thread nD τ) ↦[a.view.set]{fullShare} a.view.writes (Elt Ideal) f L)
      ⊢ (iprop(∃ d, owns (c : Thread nD τ) a fullShare d) : sProp 𝕄) := by
  iintro ⟨%f, H⟩
  iexists _
  unfold owns
  iexists _; isplitr
  swap
  · iexact H
  · ipureintro; exact rfl

end

/-- A buffer written through is kept when the pieces leave the carried rows. -/
theorem kept_of_writes {R : ℕ} (c : Dev nD) (a : Memref sig .tc .vmem (⟨3, ![R, 520, 128]⟩ : Shape) .f32)
    (L : List (View.Piece (Elt Ideal) (⟨3, ![R, 520, 128]⟩ : Shape) .f32)) {n c0 : ℕ} {Y : ℕ → ℕ → EReal}
    (h : ∀ f, Carried (a.view.read (Elt Ideal) (a.view.writes (Elt Ideal) f L)) n c0 Y) :
    iprop(∃ f, a.view.loc (c : Thread nD τ) ↦[a.view.set]{fullShare} a.view.writes (Elt Ideal) f L)
      ⊢ (kept c a n c0 Y : sProp 𝕄) := by
  iintro ⟨%f, H⟩
  unfold kept
  iexists _; isplitr
  swap
  · unfold owns
    iexists _; isplitr
    swap
    · iexact H
    · ipureintro; exact rfl
  · ipureintro; exact h f

/-- What is kept is in particular owned. -/
theorem some_of_kept {R : ℕ} (c : Dev nD) (a : Memref sig .tc .vmem (⟨3, ![R, 520, 128]⟩ : Shape) .f32) (n c0 : ℕ) (Y : ℕ → ℕ → EReal) :
    (kept c a n c0 Y : sProp 𝕄) ⊢ iprop(∃ d, owns (c : Thread nD τ) a fullShare d) := by
  unfold kept
  iintro ⟨%d, %_h, H⟩
  iexists _
  iexact H

end Cert.KernelIdeal.Channel

end
-- ==== Proof.Channel.Out.lean ====
module

public import proofs.«01_k».proof.Proof.Channel.Chunk

/-! # The output of a tile

The accumulator's even and odd rows are put back in order by two strided stores to a slab of 128 columns, the residual is
added, and the sum is normalised. -/

@[expose] public section

set_option maxRecDepth 16384

noncomputable section

namespace Cert.KernelIdeal.Channel

open Idealize.ShloMosaic Cert.KernelIdeal Cert.KernelIdeal.Gen Slab

section

variable {sig : RefSig} {κ' : Kind} {sp : Space}

/-- Slab `k` of the buffer reads as 128 columns of `G`. -/
def Mixed (v : View sig κ' sp ⟨3, ![8, 512, 128]⟩ .f32) (f : v.ty.Contents (Elt Ideal))
    (T : List (View.Piece (Elt Ideal) ⟨3, ![8, 512, 128]⟩ .f32)) (k : ℕ) (G : ℕ → ℕ → EReal) (C : ℕ) : Prop :=
  ∀ i : (⟨3, ![8, 512, 128]⟩ : Shape).Idx, (i 0).val = k → v.read (Elt Ideal) (v.writes (Elt Ideal) f T) i = G (i 1).val (C + (i 2).val)

variable (v : View sig κ' sp ⟨3, ![8, 512, 128]⟩ .f32) (f : v.ty.Contents (Elt Ideal))

/-- A store into another slab leaves this one. -/
theorem mix_skip {k k' o C : ℕ} {G : ℕ → ℕ → EReal} {T : List (View.Piece (Elt Ideal) ⟨3, ![8, 512, 128]⟩ .f32)}
    {h : ∀ a, (![1, 256, 128] : Fin 3 → ℕ) a = 0 ∨ (![k', o, 0] : Fin 3 → ℕ) a + (![1, 2, 1] : Fin 3 → ℕ) a * ((![1, 256, 128] : Fin 3 → ℕ) a - 1) < (⟨3, ![8, 512, 128]⟩ : Shape).size a}
    {h' : ∀ a, 0 < (![1, 2, 1] : Fin 3 → ℕ) a} {w : (⟨3, ![1, 256, 128]⟩ : Shape).Idx → EReal} (hk : k' ≠ k) (ht : Mixed v f T k G C) :
    Mixed v f (⟨{ off := ![k', o, 0], size := ![1, 256, 128], stride := ![1, 2, 1], inb := h, stride_pos := h' }, w⟩ :: T) k G C := by
  intro i h0
  rw [View.read_writes_cons_miss_of_axis v f _ T i 0 k' 1 rfl rfl rfl (by omega)]
  exact ht i h0

/-- The two stores into slab `k`, odd rows over even rows. -/
theorem mix_pair {k C : ℕ} {G : ℕ → ℕ → EReal} {T : List (View.Piece (Elt Ideal) ⟨3, ![8, 512, 128]⟩ .f32)}
    {h0 : ∀ a, (![1, 256, 128] : Fin 3 → ℕ) a = 0 ∨ (![k, 0, 0] : Fin 3 → ℕ) a + (![1, 2, 1] : Fin 3 → ℕ) a * ((![1, 256, 128] : Fin 3 → ℕ) a - 1) < (⟨3, ![8, 512, 128]⟩ : Shape).size a}
    {h1 : ∀ a, (![1, 256, 128] : Fin 3 → ℕ) a = 0 ∨ (![k, 1, 0] : Fin 3 → ℕ) a + (![1, 2, 1] : Fin 3 → ℕ) a * ((![1, 256, 128] : Fin 3 → ℕ) a - 1) < (⟨3, ![8, 512, 128]⟩ : Shape).size a}
    {h0' h1' : ∀ a, 0 < (![1, 2, 1] : Fin 3 → ℕ) a} {we wo : (⟨3, ![1, 256, 128]⟩ : Shape).Idx → EReal}
    (ho : ∀ x, wo x = G (2 * (x 1).val + 1) (C + (x 2).val)) (he : ∀ x, we x = G (2 * (x 1).val) (C + (x 2).val)) :
    Mixed v f (⟨{ off := ![k, 1, 0], size := ![1, 256, 128], stride := ![1, 2, 1], inb := h1, stride_pos := h1' }, wo⟩
      :: ⟨{ off := ![k, 0, 0], size := ![1, 256, 128], stride := ![1, 2, 1], inb := h0, stride_pos := h0' }, we⟩ :: T) k G C := by
  intro i hk
  have hi : (i 1).val < 512 := (i 1).isLt
  have hx : (i 1).val / 2 < 256 := by omega
  by_cases hp : (i 1).val % 2 = 1
  · refine (View.read_writes_cons_hit_of_coords v f
      ({ off := ![k, 1, 0], size := ![1, 256, 128], stride := ![1, 2, 1], inb := h1, stride_pos := h1' } : Rect ⟨3, ![8, 512, 128]⟩) wo _
      (ix3 (0 : Fin 1) (⟨(i 1).val / 2, hx⟩ : Fin 256) (i 2)) i ?_).trans ((ho _).trans ?_)
    · intro a
      match a with
      | ⟨0, _⟩ => show (i 0).val = k + 1 * 0; omega
      | ⟨1, _⟩ => show (i 1).val = 1 + 2 * ((i 1).val / 2); omega
      | ⟨2, _⟩ => show (i 2).val = 0 + 1 * (i 2).val; omega
    · exact congrArg (fun r => G r (C + (i 2).val)) (show 2 * ((i 1).val / 2) + 1 = (i 1).val by omega)
  · refine (View.read_writes_cons_miss v f _ _ i ?_).trans ((View.read_writes_cons_hit_of_coords v f
      ({ off := ![k, 0, 0], size := ![1, 256, 128], stride := ![1, 2, 1], inb := h0, stride_pos := h0' } : Rect ⟨3, ![8, 512, 128]⟩) we _
      (ix3 (0 : Fin 1) (⟨(i 1).val / 2, hx⟩ : Fin 256) (i 2)) i ?_).trans ((he _).trans ?_))
    · intro hm
      obtain ⟨x, hx⟩ := LoadRect.exists_idx_of_mem _ hm
      have hv : 1 + 2 * (x 1).val = (i 1).val := congrArg (fun j => (j 1).val) hx
      omega
    · intro a
      match a with
      | ⟨0, _⟩ => show (i 0).val = k + 1 * 0; omega
      | ⟨1, _⟩ => show (i 1).val = 0 + 2 * ((i 1).val / 2); omega
      | ⟨2, _⟩ => show (i 2).val = 0 + 1 * (i 2).val; omega
    · exact congrArg (fun r => G r (C + (i 2).val)) (show 2 * ((i 1).val / 2) = (i 1).val by omega)

/-- The accumulator's even rows, 128 of its columns. -/
theorem half_even {C : ℕ} {G : ℕ → ℕ → EReal} {A : (⟨2, ![512, 1024]⟩ : Shape).Idx → EReal}
    {h : S512x1024.Slices ![0, C] S256x128} {h1 : S256x128.ShapeCasts S1x256x128} (hA : ∀ i, A i = G (rowOf (i 0).val) (i 1).val)
    (x : S1x256x128.Idx) :
    shapeCast S1x256x128 (extractStridedSlice S256x128 ![0, C] A h) h1 x = G (2 * (x 1).val) (C + (x 2).val) := by
  have hx : (x 1).val < 256 := (x 1).isLt
  have hp : ∀ Z : S256x128.Idx → EReal, shapeCast S1x256x128 Z h1 x = Z (ix2 (x 1) (x 2)) := by
    intro Z
    pointwise
  refine (hp _).trans ?_
  unfold extractStridedSlice
  rw [hA]
  have hr : rowOf (0 + (x 1).val) = 2 * (x 1).val := by
    unfold rowOf
    rw [if_pos (by omega)]
    omega
  exact congrArg (fun r => G r (C + (x 2).val)) hr

/-- The accumulator's odd rows, 128 of its columns. -/
theorem half_odd {C : ℕ} {G : ℕ → ℕ → EReal} {A : (⟨2, ![512, 1024]⟩ : Shape).Idx → EReal}
    {h : S512x1024.Slices ![256, C] S256x128} {h1 : S256x128.ShapeCasts S1x256x128} (hA : ∀ i, A i = G (rowOf (i 0).val) (i 1).val)
    (x : S1x256x128.Idx) :
    shapeCast S1x256x128 (extractStridedSlice S256x128 ![256, C] A h) h1 x = G (2 * (x 1).val + 1) (C + (x 2).val) := by
  have hx : (x 1).val < 256 := (x 1).isLt
  have hp : ∀ Z : S256x128.Idx → EReal, shapeCast S1x256x128 Z h1 x = Z (ix2 (x 1) (x 2)) := by
    intro Z
    pointwise
  refine (hp _).trans ?_
  unfold extractStridedSlice
  rw [hA]
  have hr : rowOf (256 + (x 1).val) = 2 * (x 1).val + 1 := by
    unfold rowOf
    rw [if_neg (by omega)]
    omega
  exact congrArg (fun r => G r (C + (x 2).val)) hr

/-- A slab read whole. -/
theorem mix_load {k C : ℕ} {G : ℕ → ℕ → EReal} {T : List (View.Piece (Elt Ideal) ⟨3, ![8, 512, 128]⟩ .f32)}
    {h : ∀ b, (![k, 0, 0] : Fin 3 → ℕ) b + (![1, 512, 128] : Fin 3 → ℕ) b ≤ (⟨3, ![8, 512, 128]⟩ : Shape).size b}
    {h1 : S1x512x128.ShapeCasts S512x128} (hm : Mixed v v.junk T k G C) (i : S512x128.Idx) :
    shapeCast S512x128 (v.readCov T (Rect.unit (s := ⟨3, ![8, 512, 128]⟩) ![k, 0, 0] ![1, 512, 128] h).toLoadRect) h1 i
      = G (i 0).val (C + (i 1).val) := by
  have hp : ∀ Z : S1x512x128.Idx → EReal, shapeCast S512x128 Z h1 i = Z (ix3 0 (i 0) (i 1)) := by
    intro Z
    pointwise
  refine (hp _).trans ?_
  show v.readAt (Elt Ideal) _ (v.writes (Elt Ideal) v.junk T) _ = _
  rw [View.readAt_apply, hm]
  · congr 1
    · show 0 + 1 * (i 0).val = _; omega
    · show C + (0 + 1 * (i 1).val) = _; omega
  · show k + 1 * 0 = k; omega

/-- The residual plus the eight slabs side by side. -/
theorem mix_sum {G x : ℕ → ℕ → EReal} {X : FVec Ideal S512x1024 .f32} {p0 p1 p2 p3 p4 p5 p6 p7 : FVec Ideal S512x128 .f32}
    {h : Shape.Concatenates [S512x128, S512x128, S512x128, S512x128, S512x128, S512x128, S512x128, S512x128] S512x1024 1}
    (hX : ∀ i, X i = x (i 0).val (i 1).val)
    (h0 : ∀ i, p0 i = G (i 0).val (0 + (i 1).val)) (h1 : ∀ i, p1 i = G (i 0).val (128 + (i 1).val))
    (h2 : ∀ i, p2 i = G (i 0).val (256 + (i 1).val)) (h3 : ∀ i, p3 i = G (i 0).val (384 + (i 1).val))
    (h4 : ∀ i, p4 i = G (i 0).val (512 + (i 1).val)) (h5 : ∀ i, p5 i = G (i 0).val (640 + (i 1).val))
    (h6 : ∀ i, p6 i = G (i 0).val (768 + (i 1).val)) (h7 : ∀ i, p7 i = G (i 0).val (896 + (i 1).val)) (i : S512x1024.Idx) :
    addf X (concatenate S512x1024 1 [⟨S512x128, p0⟩, ⟨S512x128, p1⟩, ⟨S512x128, p2⟩, ⟨S512x128, p3⟩, ⟨S512x128, p4⟩, ⟨S512x128, p5⟩,
      ⟨S512x128, p6⟩, ⟨S512x128, p7⟩] h) i = x (i 0).val (i 1).val + G (i 0).val (i 1).val := by
  have hi : (i 1).val < 1024 := (i 1).isLt
  pointwise
  rw [hX]
  congr 1
  split
  · rw [h0]; exact congrArg (G _) (by show 0 + (i 1).val = _; omega)
  split
  · rw [h1]; exact congrArg (G _) (by show 128 + ((i 1).val - 128) = _; omega)
  split
  · rw [h2]; exact congrArg (G _) (by show 256 + ((i 1).val - 128 - 128) = _; omega)
  split
  · rw [h3]; exact congrArg (G _) (by show 384 + ((i 1).val - 128 - 128 - 128) = _; omega)
  split
  · rw [h4]; exact congrArg (G _) (by show 512 + ((i 1).val - 128 - 128 - 128 - 128) = _; omega)
  split
  · rw [h5]; exact congrArg (G _) (by show 640 + ((i 1).val - 128 - 128 - 128 - 128 - 128) = _; omega)
  split
  · rw [h6]; exact congrArg (G _) (by show 768 + ((i 1).val - 128 - 128 - 128 - 128 - 128 - 128) = _; omega)
  · rw [h7]; exact congrArg (G _) (by show 896 + ((i 1).val - 128 - 128 - 128 - 128 - 128 - 128 - 128) = _; omega)

/-- The normalised sum, as stored. -/
theorem out_rows {z : ℕ → ℕ → EReal} {g : ℕ → EReal} {Z : FVec Ideal S512x1024 .f32} {G : FVec Ideal S1x1024 .f32}
    {h1 : S512x1024.Reduces [1] S512} {h3 : S512.ShapeCasts S512x1} {h4 : S512x1.Broadcasts S512x1024} {h5 : S1x1024.Broadcasts S512x1024}
    {h6 : S512x1024.ShapeCasts S1x512x1024} (hZ : ∀ i, Z i = z (i 0).val (i 1).val) (hG : ∀ i, G i = g (i 1).val) (i : S1x512x1024.Idx) :
    shapeCast S1x512x1024 (mulf (mulf Z (broadcastTo S512x1024 (rsqrt (addf (divf (shapeCast S512x1
      (multiReduction .add [1] S512 (mulf Z Z) 0x00000000#32 h1 (.inl rfl) rfl) h3)
      (broadcast S512x1 (Scalar.ofBits .f32 0x44800000#32))) (broadcast S512x1 (Scalar.ofBits .f32 0x358637BD#32)))) h4))
      (broadcastTo S512x1024 G h5)) h6 i = nrmT z g (i 1).val (i 2).val := by
  pointwise
  rw [hG, hZ]
  unfold nrmT
  rw [sum_fin_range _ (fun c => z (i 1).val c * z (i 1).val c) fun k => by rw [hZ]; rfl]
  rfl

/-- A buffer whose every slab carries rows of `Y`. -/
theorem carried_of_top {R n c0 : ℕ} {Y : ℕ → ℕ → EReal} (v : View sig κ' sp ⟨3, ![R, 520, 128]⟩ .f32) (f : v.ty.Contents (Elt Ideal))
    {T : List (View.Piece (Elt Ideal) ⟨3, ![R, 520, 128]⟩ .f32)} (h : ∀ k, k < R → Top (Val := Elt Ideal) v f T k Y (colOf n c0 k)) :
    Carried (v.read (Elt Ideal) (v.writes (Elt Ideal) f T)) n c0 Y :=
  fun i h1 => h (i 0).val (i 0).isLt i rfl h1

end

end Cert.KernelIdeal.Channel
-- ==== Proof.Channel.First.lean ====
module

public import proofs.«01_k».proof.Proof.Gen.KernelIdeal.Frame
public import Idealize.ShloMosaic.Lib.WordCmp

/-! # The first tile of a sequence -/

@[expose] public section

noncomputable section

namespace Cert.KernelIdeal.Channel

open Idealize.ShloMosaic Idealize.ShloMosaic.TcCoe Idealize.ShloMosaic.Tactic
open Cert.KernelIdeal.Gen

/-- The condition under which the body clears the carried rows: the first tile of a sequence. -/
abbrev first (i : grid0.Coords) : Prop := (Scalar.cmpi .ne (Scalar.extui (Scalar.cmpi .eq (BitVec.ofNat 32 (i 1).val) 0#32)) 0#32) = 1#1

/-- The grid walks the sixteen tiles of a sequence before the next sequence. -/
theorem first_iff (t : Fin grid0.N) : first (grid0.coords t) ↔ t.val % 16 = 0 := by
  have e0 : (grid0.coords t 0).val = t.val / 16 % 4 := Pipeline.Grid.coords_val t 0 (by decide) rfl
  have e1 : (grid0.coords t 1).val = t.val / 1 % 16 := Pipeline.Grid.coords_val t 1 (by decide) rfl
  simp only [first, e0, e1]
  word_cmp

end Cert.KernelIdeal.Channel
-- ==== Proof.Channel.RunA.lean ====
module

public import proofs.«01_k».proof.Proof.Channel.First
public import proofs.«01_k».proof.Proof.Gen.KernelIdeal.Skeleton
public import Idealize.ShloMosaic.Lib.Tactic

@[expose] public section

set_option maxRecDepth 16384

noncomputable section

namespace Cert.KernelIdeal.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
set_option sl_exec.stridedRows true in
/-- The body on the first tile of a sequence, where the carried rows are cleared first: it runs, it gives its operands back, and
    each buffer it writes holds a list of stores over what it held before. -/
noncomputable def runA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole) (hc : first i)
    (x2 : Vec F S1x512x1024 .f32) (x3 : Vec F S1x1024 .f32) (x4 : Vec F S512x6144 .i32) (x5 : Vec F S3x6144 .f32) (x6 : Vec F S1x6144 .f32) (x7 : Vec F S1536x1024 .i32) (x8 : Vec F S1x1024 .f32)  :
    Σ' (L9 : List (View.Piece (Elt F) S1x512x1024 .f32)), Σ' (L10 : List (View.Piece (Elt F) S8x512x128 .f32)), Σ' (L11 : List (View.Piece (Elt F) S8x520x128 .f32)), Σ' (L12 : List (View.Piece (Elt F) S8x520x128 .f32)), Σ' (L13 : List (View.Piece (Elt F) S8x520x128 .f32)), Σ' (L14 : List (View.Piece (Elt F) S8x520x128 .f32)), Σ' (L15 : List (View.Piece (Elt F) S8x520x128 .f32)), Σ' (L16 : List (View.Piece (Elt F) S4x520x128 .f32)), { L17 : List (View.Piece (Elt F) S4x520x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_channel_mixer_eq_skeleton]; unfold cc0_channel_mixer_skel
    simp only [k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.KernelIdeal.Channel

end
-- ==== Proof.Channel.ValA.lean ====
module

public import proofs.«01_k».proof.Proof.Channel.Chunk
public import proofs.«01_k».proof.Proof.Channel.RunA

/-! # The down-projection's accumulator on the first tile of a sequence

Each of the body's seven chunks adds its columns of the gated matrix times its rows of the down-projection. -/

@[expose] public section

set_option maxRecDepth 16384

noncomputable section

namespace Cert.KernelIdeal.Channel

open Idealize.ShloMosaic Cert.KernelIdeal Cert.KernelIdeal.Gen Slab

section

variable (c : Dev nD) (arg2 : Memref sig .tc .vmem S1x512x1024 .f32) (harg2 : arg2.IsWhole) (arg3 : Memref sig .tc .vmem S1x1024 .f32) (harg3 : arg3.IsWhole)
  (arg4 : Memref sig .tc .vmem S512x6144 .i32) (harg4 : arg4.IsWhole) (arg5 : Memref sig .tc .vmem S3x6144 .f32) (harg5 : arg5.IsWhole)
  (arg6 : Memref sig .tc .vmem S1x6144 .f32) (harg6 : arg6.IsWhole) (arg7 : Memref sig .tc .vmem S1536x1024 .i32) (harg7 : arg7.IsWhole)
  (arg11 : Memref sig .tc .vmem S8x520x128 .f32)
  (arg12 : Memref sig .tc .vmem S8x520x128 .f32)
  (arg13 : Memref sig .tc .vmem S8x520x128 .f32)
  (arg14 : Memref sig .tc .vmem S8x520x128 .f32)
  (arg15 : Memref sig .tc .vmem S8x520x128 .f32)
  (arg16 : Memref sig .tc .vmem S4x520x128 .f32)
  (arg17 : Memref sig .tc .vmem S4x520x128 .f32)
  (x2 : Vec Ideal S1x512x1024 .f32) (x3 : Vec Ideal S1x1024 .f32) (x4 : Vec Ideal S512x6144 .i32) (x5 : Vec Ideal S3x6144 .f32) (x6 : Vec Ideal S1x6144 .f32) (x7 : Vec Ideal S1536x1024 .i32)

/-- The tile's upper half, normalised. -/
theorem halfA0 (i : S256x1024.Idx) : runA.sl.v19 (F := Ideal) c arg2 harg2 arg3 harg3 x2 x3 i = nrmT (at3 x2) (at2 x3 0) (0 + (i 0).val) (i 1).val :=
  norm_half (tile_rows arg2 harg2 x2) (gain_row arg3 harg3 x3) i

/-- The tile's lower half, normalised. -/
theorem halfA1 (i : S256x1024.Idx) : runA.sl.v34 (F := Ideal) c arg2 harg2 arg3 harg3 x2 x3 i = nrmT (at3 x2) (at2 x3 0) (256 + (i 0).val) (i 1).val :=
  norm_half (tile_rows arg2 harg2 x2) (gain_row arg3 harg3 x3) i

set_option maxHeartbeats 1000000 in
/-- After the chunk that starts at column 0. -/
theorem accA0  (i : S512x1024.Idx) :
    runA.sl.r_8 (F := Ideal) c arg2 harg2 arg3 harg3 arg4 harg4 arg5 harg5 arg6 harg6 arg7 harg7 arg11 x2 x3 x4 x5 x6 x7 i
      = downT (gatedT (upT (at3 x2) (at2 x3 0) (wtT x4)) (fun _ _ => 0) (at2 x5) (at2 x6 0)) (wtT x7) 512 (rowOf (i 0).val) (i 1).val := by
  have h0 := halfA0 c arg2 harg2 arg3 harg3 x2 x3
  have h1 := halfA1 c arg2 harg2 arg3 harg3 x2 x3
  refine acc_first (dot512 (n := 0) ?_ ?_ ?_ ?_ (down_block arg7 harg7 x7 rfl rfl)) i
  all_goals refine slab_gated arg11.view rfl rfl rfl rfl ?_ ?_ rfl ?_ ?_
  all_goals
    first
    | repeat refine top_skip _ _ (by decide) ?_
      exact top_zero _ _
    | exact slice_rows (up_rows512 h0 h1 (up_block arg4 harg4 x4)) rfl

set_option maxHeartbeats 1000000 in
/-- After the chunk that starts at column 512. -/
theorem accA1  (i : S512x1024.Idx) :
    runA.sl.v983 (F := Ideal) c arg2 harg2 arg3 harg3 arg4 harg4 arg5 harg5 arg6 harg6 arg7 harg7 arg11 arg12 x2 x3 x4 x5 x6 x7 i
      = downT (gatedT (upT (at3 x2) (at2 x3 0) (wtT x4)) (fun _ _ => 0) (at2 x5) (at2 x6 0)) (wtT x7) 1024 (rowOf (i 0).val) (i 1).val := by
  have h0 := halfA0 c arg2 harg2 arg3 harg3 x2 x3
  have h1 := halfA1 c arg2 harg2 arg3 harg3 x2 x3
  refine acc_next (accA0 c arg2 harg2 arg3 harg3 arg4 harg4 arg5 harg5 arg6 harg6 arg7 harg7 arg11 x2 x3 x4 x5 x6 x7 ) (dot512 (n := 512) ?_ ?_ ?_ ?_ (down_block arg7 harg7 x7 rfl rfl)) i
  all_goals refine slab_gated arg12.view rfl rfl rfl rfl ?_ ?_ rfl ?_ ?_
  all_goals
    first
    | repeat refine top_skip _ _ (by decide) ?_
      exact top_zero _ _
    | exact slice_rows (up_rows512 h0 h1 (up_block arg4 harg4 x4)) rfl

set_option maxHeartbeats 1000000 in
/-- After the chunk that starts at column 1024. -/
theorem accA2  (i : S512x1024.Idx) :
    runA.sl.r_28 (F := Ideal) c arg2 harg2 arg3 harg3 arg4 harg4 arg5 harg5 arg6 harg6 arg7 harg7 arg11 arg12 arg13 x2 x3 x4 x5 x6 x7 i
      = downT (gatedT (upT (at3 x2) (at2 x3 0) (wtT x4)) (fun _ _ => 0) (at2 x5) (at2 x6 0)) (wtT x7) 1536 (rowOf (i 0).val) (i 1).val := by
  have h0 := halfA0 c arg2 harg2 arg3 harg3 x2 x3
  have h1 := halfA1 c arg2 harg2 arg3 harg3 x2 x3
  refine acc_next (accA1 c arg2 harg2 arg3 harg3 arg4 harg4 arg5 harg5 arg6 harg6 arg7 harg7 arg11 arg12 x2 x3 x4 x5 x6 x7 ) (dot512 (n := 1024) ?_ ?_ ?_ ?_ (down_block arg7 harg7 x7 rfl rfl)) i
  all_goals refine slab_gated arg13.view rfl rfl rfl rfl ?_ ?_ rfl ?_ ?_
  all_goals
    first
    | repeat refine top_skip _ _ (by decide) ?_
      exact top_zero _ _
    | exact slice_rows (up_rows512 h0 h1 (up_block arg4 harg4 x4)) rfl

set_option maxHeartbeats 1000000 in
/-- After the chunk that starts at column 1536. -/
theorem accA3  (i : S512x1024.Idx) :
    runA.sl.r_38 (F := Ideal) c arg2 harg2 arg3 harg3 arg4 harg4 arg5 harg5 arg6 harg6 arg7 harg7 arg11 arg12 arg13 arg14 x2 x3 x4 x5 x6 x7 i
      = downT (gatedT (upT (at3 x2) (at2 x3 0) (wtT x4)) (fun _ _ => 0) (at2 x5) (at2 x6 0)) (wtT x7) 2048 (rowOf (i 0).val) (i 1).val := by
  have h0 := halfA0 c arg2 harg2 arg3 harg3 x2 x3
  have h1 := halfA1 c arg2 harg2 arg3 harg3 x2 x3
  refine acc_next (accA2 c arg2 harg2 arg3 harg3 arg4 harg4 arg5 harg5 arg6 harg6 arg7 harg7 arg11 arg12 arg13 x2 x3 x4 x5 x6 x7 ) (dot512 (n := 1536) ?_ ?_ ?_ ?_ (down_block arg7 harg7 x7 rfl rfl)) i
  all_goals refine slab_gated arg14.view rfl rfl rfl rfl ?_ ?_ rfl ?_ ?_
  all_goals
    first
    | repeat refine top_skip _ _ (by decide) ?_
      exact top_zero _ _
    | exact slice_rows (up_rows512 h0 h1 (up_block arg4 harg4 x4)) rfl
    | delta runA.sl.r_29 k0_pay395
      exact slice_rows (up_rows512 h0 h1 (up_block arg4 harg4 x4)) rfl

set_option maxHeartbeats 1000000 in
/-- After the chunk that starts at column 2048. -/
theorem accA4  (i : S512x1024.Idx) :
    runA.sl.r_52 (F := Ideal) c arg2 harg2 arg3 harg3 arg4 harg4 arg5 harg5 arg6 harg6 arg7 harg7 arg11 arg12 arg13 arg14 arg15 x2 x3 x4 x5 x6 x7 i
      = downT (gatedT (upT (at3 x2) (at2 x3 0) (wtT x4)) (fun _ _ => 0) (at2 x5) (at2 x6 0)) (wtT x7) 2560 (rowOf (i 0).val) (i 1).val := by
  have h0 := halfA0 c arg2 harg2 arg3 harg3 x2 x3
  have h1 := halfA1 c arg2 harg2 arg3 harg3 x2 x3
  refine acc_next (accA3 c arg2 harg2 arg3 harg3 arg4 harg4 arg5 harg5 arg6 harg6 arg7 harg7 arg11 arg12 arg13 arg14 x2 x3 x4 x5 x6 x7 ) (dot512 (n := 2048) ?_ ?_ ?_ ?_ (down_block arg7 harg7 x7 rfl rfl)) i
  all_goals refine slab_gated arg15.view rfl rfl rfl rfl ?_ ?_ rfl ?_ ?_
  all_goals
    first
    | repeat refine top_skip _ _ (by decide) ?_
      exact top_zero _ _
    | exact slice_rows (up_rows512 h0 h1 (up_block arg4 harg4 x4)) rfl

set_option maxHeartbeats 1000000 in
/-- After the chunk that starts at column 2560. -/
theorem accA5  (i : S512x1024.Idx) :
    runA.sl.r_82 (F := Ideal) c arg2 harg2 arg3 harg3 arg4 harg4 arg5 harg5 arg6 harg6 arg7 harg7 arg11 arg12 arg13 arg14 arg15 arg16 x2 x3 x4 x5 x6 x7 i
      = downT (gatedT (upT (at3 x2) (at2 x3 0) (wtT x4)) (fun _ _ => 0) (at2 x5) (at2 x6 0)) (wtT x7) 2816 (rowOf (i 0).val) (i 1).val := by
  have h0 := halfA0 c arg2 harg2 arg3 harg3 x2 x3
  have h1 := halfA1 c arg2 harg2 arg3 harg3 x2 x3
  refine acc_next (accA4 c arg2 harg2 arg3 harg3 arg4 harg4 arg5 harg5 arg6 harg6 arg7 harg7 arg11 arg12 arg13 arg14 arg15 x2 x3 x4 x5 x6 x7 ) (dot256 (n := 2560) ?_ ?_ (down_block arg7 harg7 x7 rfl rfl)) i
  all_goals refine slab_gated arg16.view rfl rfl rfl rfl ?_ ?_ rfl ?_ ?_
  all_goals
    first
    | repeat refine top_skip _ _ (by decide) ?_
      exact top_zero _ _
    | exact slice_rows (up_rows256 h0 h1 (up_block arg4 harg4 x4)) rfl
    | delta runA.sl.r_68 k0_pay637
      exact slice_rows (up_rows256 h0 h1 (up_block arg4 harg4 x4)) rfl

set_option maxHeartbeats 1000000 in
/-- After the chunk that starts at column 2816. -/
theorem accA6  (i : S512x1024.Idx) :
    runA.sl.r_107 (F := Ideal) c arg2 harg2 arg3 harg3 arg4 harg4 arg5 harg5 arg6 harg6 arg7 harg7 arg11 arg12 arg13 arg14 arg15 arg16 arg17 x2 x3 x4 x5 x6 x7 i
      = downT (gatedT (upT (at3 x2) (at2 x3 0) (wtT x4)) (fun _ _ => 0) (at2 x5) (at2 x6 0)) (wtT x7) 3072 (rowOf (i 0).val) (i 1).val := by
  have h0 := halfA0 c arg2 harg2 arg3 harg3 x2 x3
  have h1 := halfA1 c arg2 harg2 arg3 harg3 x2 x3
  refine acc_next (accA5 c arg2 harg2 arg3 harg3 arg4 harg4 arg5 harg5 arg6 harg6 arg7 harg7 arg11 arg12 arg13 arg14 arg15 arg16 x2 x3 x4 x5 x6 x7 ) (dot256 (n := 2816) ?_ ?_ (down_block arg7 harg7 x7 rfl rfl)) i
  all_goals refine slab_gated arg17.view rfl rfl rfl rfl ?_ ?_ rfl ?_ ?_
  all_goals
    first
    | repeat refine top_skip _ _ (by decide) ?_
      exact top_zero _ _
    | exact slice_rows (up_rows256 h0 h1 (up_block arg4 harg4 x4)) rfl

end

end Cert.KernelIdeal.Channel
-- ==== Proof.Channel.EndA.lean ====
module

public import proofs.«01_k».proof.Proof.Channel.Chunk
public import proofs.«01_k».proof.Proof.Channel.Out
public import proofs.«01_k».proof.Proof.Channel.ValA

/-! # What the first tile of a sequence leaves

The tile of the result, and the last eight rows of the up-projection in each of the seven buffers. -/

@[expose] public section

set_option maxRecDepth 16384

noncomputable section

namespace Cert.KernelIdeal.Channel

open Idealize.ShloMosaic Cert.KernelIdeal Cert.KernelIdeal.Gen Slab

section

variable (c : Dev nD) (arg2 : Memref sig .tc .vmem S1x512x1024 .f32) (harg2 : arg2.IsWhole) (arg3 : Memref sig .tc .vmem S1x1024 .f32) (harg3 : arg3.IsWhole)
  (arg4 : Memref sig .tc .vmem S512x6144 .i32) (harg4 : arg4.IsWhole) (arg5 : Memref sig .tc .vmem S3x6144 .f32) (harg5 : arg5.IsWhole)
  (arg6 : Memref sig .tc .vmem S1x6144 .f32) (harg6 : arg6.IsWhole) (arg7 : Memref sig .tc .vmem S1536x1024 .i32) (harg7 : arg7.IsWhole)
  (arg8 : Memref sig .tc .vmem S1x1024 .f32) (harg8 : arg8.IsWhole) (arg9 : Memref sig .tc .vmem S1x512x1024 .f32) (harg9 : arg9.IsWhole)
  (arg10 : Memref sig .tc .vmem S8x512x128 .f32) (harg10 : arg10.IsWhole)
  (arg11 : Memref sig .tc .vmem S8x520x128 .f32) (harg11 : arg11.IsWhole)
  (arg12 : Memref sig .tc .vmem S8x520x128 .f32) (harg12 : arg12.IsWhole)
  (arg13 : Memref sig .tc .vmem S8x520x128 .f32) (harg13 : arg13.IsWhole)
  (arg14 : Memref sig .tc .vmem S8x520x128 .f32) (harg14 : arg14.IsWhole)
  (arg15 : Memref sig .tc .vmem S8x520x128 .f32) (harg15 : arg15.IsWhole)
  (arg16 : Memref sig .tc .vmem S4x520x128 .f32) (harg16 : arg16.IsWhole)
  (arg17 : Memref sig .tc .vmem S4x520x128 .f32) (harg17 : arg17.IsWhole)
  (x2 : Vec Ideal S1x512x1024 .f32) (x3 : Vec Ideal S1x1024 .f32) (x4 : Vec Ideal S512x6144 .i32) (x5 : Vec Ideal S3x6144 .f32) (x6 : Vec Ideal S1x6144 .f32) (x7 : Vec Ideal S1536x1024 .i32) (x8 : Vec Ideal S1x1024 .f32)
  (i : grid0.Coords) (hc : first i)

set_option maxHeartbeats 1000000 in
/-- The tile plus its channel mix. -/
theorem sumA  (j : S512x1024.Idx) :
    runA.sl.r_110 (F := Ideal) c arg2 harg2 arg3 harg3 arg4 harg4 arg5 harg5 arg6 harg6 arg7 harg7 arg10 arg11 arg12 arg13 arg14 arg15 arg16 arg17 x2 x3 x4 x5 x6 x7 j
      = at3 x2 (j 0).val (j 1).val + (downT (gatedT (upT (at3 x2) (at2 x3 0) (wtT x4)) (fun _ _ => 0) (at2 x5) (at2 x6 0)) (wtT x7) 3072) (j 0).val (j 1).val := by
  have hA := accA6 c arg2 harg2 arg3 harg3 arg4 harg4 arg5 harg5 arg6 harg6 arg7 harg7 arg11 arg12 arg13 arg14 arg15 arg16 arg17 x2 x3 x4 x5 x6 x7
  refine mix_sum (G := (downT (gatedT (upT (at3 x2) (at2 x3 0) (wtT x4)) (fun _ _ => 0) (at2 x5) (at2 x6 0)) (wtT x7) 3072)) (tile_rows arg2 harg2 x2) ?_ ?_ ?_ ?_ ?_ ?_ ?_ ?_ j
  all_goals refine mix_load arg10.view ?_
  all_goals repeat refine mix_skip _ _ (by decide) ?_
  all_goals
    refine mix_pair _ _ ?_ ?_
    · refine half_odd (h := ?_) hA <;> decide
    · first
      | refine half_even (h := ?_) hA <;> decide
      | delta runA.sl.r_108 k0_pay709
        refine half_even (h := ?_) hA <;> decide

/-- The tile of the result. -/
theorem resultA  (f : arg9.view.ty.Contents (Elt Ideal)) (j : S1x512x1024.Idx) :
    arg9.view.read (Elt Ideal) (arg9.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).1) j
      = nrmT (fun r e => at3 x2 r e + downT (gatedT (upT (at3 x2) (at2 x3 0) (wtT x4)) (fun _ _ => 0) (at2 x5) (at2 x6 0)) (wtT x7) 3072 r e) (at2 x8 0) (j 1).val (j 2).val := by
  refine (View.read_writes_cons_hit_of_coords arg9.view f (Rect.unit (s := S1x512x1024) ![0, 0, 0] S1x512x1024.size _) _ _ j j ?_).trans
    (out_rows (sumA c arg2 harg2 arg3 harg3 arg4 harg4 arg5 harg5 arg6 harg6 arg7 harg7 arg10 arg11 arg12 arg13 arg14 arg15 arg16 arg17 x2 x3 x4 x5 x6 x7) (gain_row arg8 harg8 x8) j)
  intro a
  match a with
  | ⟨0, _⟩ => exact (Nat.zero_add _).trans (Nat.one_mul _) |>.symm
  | ⟨1, _⟩ => exact (Nat.zero_add _).trans (Nat.one_mul _) |>.symm
  | ⟨2, _⟩ => exact (Nat.zero_add _).trans (Nat.one_mul _) |>.symm

set_option maxHeartbeats 1000000 in
/-- The rows left for the tile that follows, columns from 0 on. -/
theorem carryA11 (f : arg11.view.ty.Contents (Elt Ideal)) :
    Carried (arg11.view.read (Elt Ideal) (arg11.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.1)) 4 0
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg11.view f ?_
  intro k hk
  interval_cases k
  all_goals
    repeat refine top_skip _ _ (by decide) ?_
    refine top_hit _ _ (load_tail arg11.view ?_)
    first
    | exact slice_rows (up_rows512 h0 h1 (up_block arg4 harg4 x4)) rfl

set_option maxHeartbeats 1000000 in
/-- The rows left for the tile that follows, columns from 512 on. -/
theorem carryA12 (f : arg12.view.ty.Contents (Elt Ideal)) :
    Carried (arg12.view.read (Elt Ideal) (arg12.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.1)) 4 512
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg12.view f ?_
  intro k hk
  interval_cases k
  all_goals
    repeat refine top_skip _ _ (by decide) ?_
    refine top_hit _ _ (load_tail arg12.view ?_)
    first
    | exact slice_rows (up_rows512 h0 h1 (up_block arg4 harg4 x4)) rfl

set_option maxHeartbeats 1000000 in
/-- The rows left for the tile that follows, columns from 1024 on. -/
theorem carryA13 (f : arg13.view.ty.Contents (Elt Ideal)) :
    Carried (arg13.view.read (Elt Ideal) (arg13.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.2.1)) 4 1024
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg13.view f ?_
  intro k hk
  interval_cases k
  all_goals
    repeat refine top_skip _ _ (by decide) ?_
    refine top_hit _ _ (load_tail arg13.view ?_)
    first
    | exact slice_rows (up_rows512 h0 h1 (up_block arg4 harg4 x4)) rfl

set_option maxHeartbeats 1000000 in
/-- The rows left for the tile that follows, columns from 1536 on. -/
theorem carryA14 (f : arg14.view.ty.Contents (Elt Ideal)) :
    Carried (arg14.view.read (Elt Ideal) (arg14.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.2.2.1)) 4 1536
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg14.view f ?_
  intro k hk
  interval_cases k
  all_goals
    repeat refine top_skip _ _ (by decide) ?_
    refine top_hit _ _ (load_tail arg14.view ?_)
    first
    | exact slice_rows (up_rows512 h0 h1 (up_block arg4 harg4 x4)) rfl
    | delta runA.sl.r_29 k0_pay395
      exact slice_rows (up_rows512 h0 h1 (up_block arg4 harg4 x4)) rfl

set_option maxHeartbeats 1000000 in
/-- The rows left for the tile that follows, columns from 2048 on. -/
theorem carryA15 (f : arg15.view.ty.Contents (Elt Ideal)) :
    Carried (arg15.view.read (Elt Ideal) (arg15.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.2.2.2.1)) 4 2048
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg15.view f ?_
  intro k hk
  interval_cases k
  all_goals
    repeat refine top_skip _ _ (by decide) ?_
    refine top_hit _ _ (load_tail arg15.view ?_)
    first
    | exact slice_rows (up_rows512 h0 h1 (up_block arg4 harg4 x4)) rfl

set_option maxHeartbeats 1000000 in
/-- The rows left for the tile that follows, columns from 2560 on. -/
theorem carryA16 (f : arg16.view.ty.Contents (Elt Ideal)) :
    Carried (arg16.view.read (Elt Ideal) (arg16.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.2.2.2.2.1)) 2 2560
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg16.view f ?_
  intro k hk
  interval_cases k
  all_goals
    repeat refine top_skip _ _ (by decide) ?_
    refine top_hit _ _ (load_tail arg16.view ?_)
    first
    | exact slice_rows (up_rows256 h0 h1 (up_block arg4 harg4 x4)) rfl
    | delta runA.sl.r_68 k0_pay637
      exact slice_rows (up_rows256 h0 h1 (up_block arg4 harg4 x4)) rfl

set_option maxHeartbeats 1000000 in
/-- The rows left for the tile that follows, columns from 2816 on. -/
theorem carryA17 (f : arg17.view.ty.Contents (Elt Ideal)) :
    Carried (arg17.view.read (Elt Ideal) (arg17.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.2.2.2.2.2.1)) 2 2816
      (fun r C => (upT (at3 x2) (at2 x3 0) (wtT x4)) (504 + r) C) := by
  have h0 := halfA0 c arg2 harg2 arg3 harg3 x2 x3
  have h1 := halfA1 c arg2 harg2 arg3 harg3 x2 x3
  refine carried_of_top arg17.view f ?_
  intro k hk
  interval_cases k
  all_goals
    repeat refine top_skip _ _ (by decide) ?_
    refine top_hit _ _ (load_tail arg17.view ?_)
    first
    | exact slice_rows (up_rows256 h0 h1 (up_block arg4 harg4 x4)) rfl

end

end Cert.KernelIdeal.Channel
-- ==== Proof.Channel.StepA.lean ====
module

public import proofs.«01_k».proof.Proof.Channel.Kept
public import proofs.«01_k».proof.Proof.Channel.EndA
public import Idealize.ShloMosaic.Lib.Pipeline.FrameBody

@[expose] public section

set_option maxRecDepth 16384

noncomputable section

namespace Cert.KernelIdeal.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- The first tile of a sequence: the body leaves the tile `T` of the result and the rows `W` for the next tile. -/
theorem stepA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole) (hc : first i)
    (x2 : Vec Ideal S1x512x1024 .f32) (x3 : Vec Ideal S1x1024 .f32) (x4 : Vec Ideal S512x6144 .i32) (x5 : Vec Ideal S3x6144 .f32) (x6 : Vec Ideal S1x6144 .f32) (x7 : Vec Ideal S1536x1024 .i32) (x8 : Vec Ideal S1x1024 .f32) (T : Vec Ideal S1x512x1024 .f32) (W : ℕ → ℕ → EReal)
    (hT : ∀ j : S1x512x1024.Idx, nrmT (fun r e => at3 x2 r e + downT (gatedT (upT (at3 x2) (at2 x3 0) (wtT x4)) (fun _ _ => 0) (at2 x5) (at2 x6 0)) (wtT x7) 3072 r e) (at2 x8 0) (j 1).val (j 2).val = T j)
    (hW : ∀ r C, r < 8 → upT (at3 x2) (at2 x3 0) (wtT x4) (504 + r) C = W r C) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare T ∗ (∃ d, owns (c : Thread nD τ) arg10 fullShare d) ∗ kept c arg11 4 0 W ∗ kept c arg12 4 512 W ∗ kept c arg13 4 1024 W ∗ kept c arg14 4 1536 W ∗ kept c arg15 4 2048 W ∗ kept c arg16 2 2560 W ∗ kept c arg17 2 2816 W) -∗ K ⟨⟩))
      ⊢ wp frame (wpE (defs₀ (F := Ideal)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, HK⟩
  iapply (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8).2.2.2.2.2.2.2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_of_writes c arg9 _ T fun f => funext fun j => (resultA c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f j).trans (hT j)); iexact H9
  isplitl [H10]; · iapply (some_of_writes c arg10 _); iexact H10
  isplitl [H11]; · iapply (kept_of_writes c arg11 _ fun f => (carryA11 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H11
  isplitl [H12]; · iapply (kept_of_writes c arg12 _ fun f => (carryA12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H12
  isplitl [H13]; · iapply (kept_of_writes c arg13 _ fun f => (carryA13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H13
  isplitl [H14]; · iapply (kept_of_writes c arg14 _ fun f => (carryA14 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H14
  isplitl [H15]; · iapply (kept_of_writes c arg15 _ fun f => (carryA15 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H15
  isplitl [H16]; · iapply (kept_of_writes c arg16 _ fun f => (carryA16 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H16
  iapply (kept_of_writes c arg17 _ fun f => (carryA17 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 i hc f).congr hW); iexact H17

end Cert.KernelIdeal.Channel

end
-- ==== Proof.Channel.RunB.lean ====
module

public import proofs.«01_k».proof.Proof.Channel.First
public import proofs.«01_k».proof.Proof.Gen.KernelIdeal.Skeleton
public import Idealize.ShloMosaic.Lib.Tactic

@[expose] public section

set_option maxRecDepth 16384

noncomputable section

namespace Cert.KernelIdeal.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
set_option sl_exec.stridedRows true in
/-- The body on a later tile of a sequence, where the carried rows are those the tile before left: it runs, it gives its operands
    back, and each buffer it writes holds a list of stores over what it held before. -/
noncomputable def runB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole) (hc : ¬first i)
    (x2 : Vec F S1x512x1024 .f32) (x3 : Vec F S1x1024 .f32) (x4 : Vec F S512x6144 .i32) (x5 : Vec F S3x6144 .f32) (x6 : Vec F S1x6144 .f32) (x7 : Vec F S1536x1024 .i32) (x8 : Vec F S1x1024 .f32) (y11 : Vec F S8x520x128 .f32) (y12 : Vec F S8x520x128 .f32) (y13 : Vec F S8x520x128 .f32) (y14 : Vec F S8x520x128 .f32) (y15 : Vec F S8x520x128 .f32) (y16 : Vec F S4x520x128 .f32) (y17 : Vec F S4x520x128 .f32) :
    Σ' (L9 : List (View.Piece (Elt F) S1x512x1024 .f32)), Σ' (L10 : List (View.Piece (Elt F) S8x512x128 .f32)), Σ' (L11 : List (View.Piece (Elt F) S8x520x128 .f32)), Σ' (L12 : List (View.Piece (Elt F) S8x520x128 .f32)), Σ' (L13 : List (View.Piece (Elt F) S8x520x128 .f32)), Σ' (L14 : List (View.Piece (Elt F) S8x520x128 .f32)), Σ' (L15 : List (View.Piece (Elt F) S8x520x128 .f32)), Σ' (L16 : List (View.Piece (Elt F) S4x520x128 .f32)), { L17 : List (View.Piece (Elt F) S4x520x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_channel_mixer_eq_skeleton]; unfold cc0_channel_mixer_skel
    simp only [k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.KernelIdeal.Channel

end
-- ==== Proof.Channel.ValB.lean ====
module

public import proofs.«01_k».proof.Proof.Channel.Chunk
public import proofs.«01_k».proof.Proof.Channel.RunB

/-! # The down-projection's accumulator on a later tile of a sequence

Each of the body's seven chunks adds its columns of the gated matrix times its rows of the down-projection. -/

@[expose] public section

set_option maxRecDepth 16384

noncomputable section

namespace Cert.KernelIdeal.Channel

open Idealize.ShloMosaic Cert.KernelIdeal Cert.KernelIdeal.Gen Slab

section

variable (c : Dev nD) (arg2 : Memref sig .tc .vmem S1x512x1024 .f32) (harg2 : arg2.IsWhole) (arg3 : Memref sig .tc .vmem S1x1024 .f32) (harg3 : arg3.IsWhole)
  (arg4 : Memref sig .tc .vmem S512x6144 .i32) (harg4 : arg4.IsWhole) (arg5 : Memref sig .tc .vmem S3x6144 .f32) (harg5 : arg5.IsWhole)
  (arg6 : Memref sig .tc .vmem S1x6144 .f32) (harg6 : arg6.IsWhole) (arg7 : Memref sig .tc .vmem S1536x1024 .i32) (harg7 : arg7.IsWhole)
  (arg11 : Memref sig .tc .vmem S8x520x128 .f32) (harg11 : arg11.IsWhole)
  (arg12 : Memref sig .tc .vmem S8x520x128 .f32) (harg12 : arg12.IsWhole)
  (arg13 : Memref sig .tc .vmem S8x520x128 .f32) (harg13 : arg13.IsWhole)
  (arg14 : Memref sig .tc .vmem S8x520x128 .f32) (harg14 : arg14.IsWhole)
  (arg15 : Memref sig .tc .vmem S8x520x128 .f32) (harg15 : arg15.IsWhole)
  (arg16 : Memref sig .tc .vmem S4x520x128 .f32) (harg16 : arg16.IsWhole)
  (arg17 : Memref sig .tc .vmem S4x520x128 .f32) (harg17 : arg17.IsWhole)
  (x2 : Vec Ideal S1x512x1024 .f32) (x3 : Vec Ideal S1x1024 .f32) (x4 : Vec Ideal S512x6144 .i32) (x5 : Vec Ideal S3x6144 .f32) (x6 : Vec Ideal S1x6144 .f32) (x7 : Vec Ideal S1536x1024 .i32)
  (y11 : Vec Ideal S8x520x128 .f32)
  (y12 : Vec Ideal S8x520x128 .f32)
  (y13 : Vec Ideal S8x520x128 .f32)
  (y14 : Vec Ideal S8x520x128 .f32)
  (y15 : Vec Ideal S8x520x128 .f32)
  (y16 : Vec Ideal S4x520x128 .f32)
  (y17 : Vec Ideal S4x520x128 .f32)
  {Y : ℕ → ℕ → EReal}

/-- The tile's upper half, normalised. -/
theorem halfB0 (i : S256x1024.Idx) : runB.sl.v19 (F := Ideal) c arg2 harg2 arg3 harg3 x2 x3 i = nrmT (at3 x2) (at2 x3 0) (0 + (i 0).val) (i 1).val :=
  norm_half (tile_rows arg2 harg2 x2) (gain_row arg3 harg3 x3) i

/-- The tile's lower half, normalised. -/
theorem halfB1 (i : S256x1024.Idx) : runB.sl.v34 (F := Ideal) c arg2 harg2 arg3 harg3 x2 x3 i = nrmT (at3 x2) (at2 x3 0) (256 + (i 0).val) (i 1).val :=
  norm_half (tile_rows arg2 harg2 x2) (gain_row arg3 harg3 x3) i

set_option maxHeartbeats 1000000 in
/-- After the chunk that starts at column 0. -/
theorem accB0 (hy11 : Carried y11 4 0 Y) (i : S512x1024.Idx) :
    runB.sl.r_9 (F := Ideal) c arg2 harg2 arg3 harg3 arg4 harg4 arg5 harg5 arg6 harg6 arg7 harg7 arg11 harg11 x2 x3 x4 x5 x6 x7 y11 i
      = downT (gatedT (upT (at3 x2) (at2 x3 0) (wtT x4)) Y (at2 x5) (at2 x6 0)) (wtT x7) 512 (rowOf (i 0).val) (i 1).val := by
  have h0 := halfB0 c arg2 harg2 arg3 harg3 x2 x3
  have h1 := halfB1 c arg2 harg2 arg3 harg3 x2 x3
  refine acc_first (dot512 (n := 0) ?_ ?_ ?_ ?_ (down_block arg7 harg7 x7 rfl rfl)) i
  all_goals refine slab_gated arg11.view rfl rfl rfl rfl ?_ ?_ rfl ?_ ?_
  all_goals
    first
    | repeat refine top_skip _ _ (by decide) ?_
      exact top_base arg11 harg11 hy11 rfl
    | exact slice_rows (up_rows512 h0 h1 (up_block arg4 harg4 x4)) rfl

set_option maxHeartbeats 1000000 in
/-- After the chunk that starts at column 512. -/
theorem accB1 (hy11 : Carried y11 4 0 Y) (hy12 : Carried y12 4 512 Y) (i : S512x1024.Idx) :
    runB.sl.v983 (F := Ideal) c arg2 harg2 arg3 harg3 arg4 harg4 arg5 harg5 arg6 harg6 arg7 harg7 arg11 harg11 arg12 harg12 x2 x3 x4 x5 x6 x7 y11 y12 i
      = downT (gatedT (upT (at3 x2) (at2 x3 0) (wtT x4)) Y (at2 x5) (at2 x6 0)) (wtT x7) 1024 (rowOf (i 0).val) (i 1).val := by
  have h0 := halfB0 c arg2 harg2 arg3 harg3 x2 x3
  have h1 := halfB1 c arg2 harg2 arg3 harg3 x2 x3
  refine acc_next (accB0 c arg2 harg2 arg3 harg3 arg4 harg4 arg5 harg5 arg6 harg6 arg7 harg7 arg11 harg11 x2 x3 x4 x5 x6 x7 y11 hy11) (dot512 (n := 512) ?_ ?_ ?_ ?_ (down_block arg7 harg7 x7 rfl rfl)) i
  all_goals refine slab_gated arg12.view rfl rfl rfl rfl ?_ ?_ rfl ?_ ?_
  all_goals
    first
    | repeat refine top_skip _ _ (by decide) ?_
      exact top_base arg12 harg12 hy12 rfl
    | exact slice_rows (up_rows512 h0 h1 (up_block arg4 harg4 x4)) rfl

set_option maxHeartbeats 1000000 in
/-- After the chunk that starts at column 1024. -/
theorem accB2 (hy11 : Carried y11 4 0 Y) (hy12 : Carried y12 4 512 Y) (hy13 : Carried y13 4 1024 Y) (i : S512x1024.Idx) :
    runB.sl.r_29 (F := Ideal) c arg2 harg2 arg3 harg3 arg4 harg4 arg5 harg5 arg6 harg6 arg7 harg7 arg11 harg11 arg12 harg12 arg13 harg13 x2 x3 x4 x5 x6 x7 y11 y12 y13 i
      = downT (gatedT (upT (at3 x2) (at2 x3 0) (wtT x4)) Y (at2 x5) (at2 x6 0)) (wtT x7) 1536 (rowOf (i 0).val) (i 1).val := by
  have h0 := halfB0 c arg2 harg2 arg3 harg3 x2 x3
  have h1 := halfB1 c arg2 harg2 arg3 harg3 x2 x3
  refine acc_next (accB1 c arg2 harg2 arg3 harg3 arg4 harg4 arg5 harg5 arg6 harg6 arg7 harg7 arg11 harg11 arg12 harg12 x2 x3 x4 x5 x6 x7 y11 y12 hy11 hy12) (dot512 (n := 1024) ?_ ?_ ?_ ?_ (down_block arg7 harg7 x7 rfl rfl)) i
  all_goals refine slab_gated arg13.view rfl rfl rfl rfl ?_ ?_ rfl ?_ ?_
  all_goals
    first
    | repeat refine top_skip _ _ (by decide) ?_
      exact top_base arg13 harg13 hy13 rfl
    | exact slice_rows (up_rows512 h0 h1 (up_block arg4 harg4 x4)) rfl

set_option maxHeartbeats 1000000 in
/-- After the chunk that starts at column 1536. -/
theorem accB3 (hy11 : Carried y11 4 0 Y) (hy12 : Carried y12 4 512 Y) (hy13 : Carried y13 4 1024 Y) (hy14 : Carried y14 4 1536 Y) (i : S512x1024.Idx) :
    runB.sl.r_39 (F := Ideal) c arg2 harg2 arg3 harg3 arg4 harg4 arg5 harg5 arg6 harg6 arg7 harg7 arg11 harg11 arg12 harg12 arg13 harg13 arg14 harg14 x2 x3 x4 x5 x6 x7 y11 y12 y13 y14 i
      = downT (gatedT (upT (at3 x2) (at2 x3 0) (wtT x4)) Y (at2 x5) (at2 x6 0)) (wtT x7) 2048 (rowOf (i 0).val) (i 1).val := by
  have h0 := halfB0 c arg2 harg2 arg3 harg3 x2 x3
  have h1 := halfB1 c arg2 harg2 arg3 harg3 x2 x3
  refine acc_next (accB2 c arg2 harg2 arg3 harg3 arg4 harg4 arg5 harg5 arg6 harg6 arg7 harg7 arg11 harg11 arg12 harg12 arg13 harg13 x2 x3 x4 x5 x6 x7 y11 y12 y13 hy11 hy12 hy13) (dot512 (n := 1536) ?_ ?_ ?_ ?_ (down_block arg7 harg7 x7 rfl rfl)) i
  all_goals refine slab_gated arg14.view rfl rfl rfl rfl ?_ ?_ rfl ?_ ?_
  all_goals
    first
    | repeat refine top_skip _ _ (by decide) ?_
      exact top_base arg14 harg14 hy14 rfl
    | exact slice_rows (up_rows512 h0 h1 (up_block arg4 harg4 x4)) rfl
    | delta runB.sl.r_30 k0_pay395
      exact slice_rows (up_rows512 h0 h1 (up_block arg4 harg4 x4)) rfl

set_option maxHeartbeats 1000000 in
/-- After the chunk that starts at column 2048. -/
theorem accB4 (hy11 : Carried y11 4 0 Y) (hy12 : Carried y12 4 512 Y) (hy13 : Carried y13 4 1024 Y) (hy14 : Carried y14 4 1536 Y) (hy15 : Carried y15 4 2048 Y) (i : S512x1024.Idx) :
    runB.sl.r_53 (F := Ideal) c arg2 harg2 arg3 harg3 arg4 harg4 arg5 harg5 arg6 harg6 arg7 harg7 arg11 harg11 arg12 harg12 arg13 harg13 arg14 harg14 arg15 harg15 x2 x3 x4 x5 x6 x7 y11 y12 y13 y14 y15 i
      = downT (gatedT (upT (at3 x2) (at2 x3 0) (wtT x4)) Y (at2 x5) (at2 x6 0)) (wtT x7) 2560 (rowOf (i 0).val) (i 1).val := by
  have h0 := halfB0 c arg2 harg2 arg3 harg3 x2 x3
  have h1 := halfB1 c arg2 harg2 arg3 harg3 x2 x3
  refine acc_next (accB3 c arg2 harg2 arg3 harg3 arg4 harg4 arg5 harg5 arg6 harg6 arg7 harg7 arg11 harg11 arg12 harg12 arg13 harg13 arg14 harg14 x2 x3 x4 x5 x6 x7 y11 y12 y13 y14 hy11 hy12 hy13 hy14) (dot512 (n := 2048) ?_ ?_ ?_ ?_ (down_block arg7 harg7 x7 rfl rfl)) i
  all_goals refine slab_gated arg15.view rfl rfl rfl rfl ?_ ?_ rfl ?_ ?_
  all_goals
    first
    | repeat refine top_skip _ _ (by decide) ?_
      exact top_base arg15 harg15 hy15 rfl
    | exact slice_rows (up_rows512 h0 h1 (up_block arg4 harg4 x4)) rfl

set_option maxHeartbeats 1000000 in
/-- After the chunk that starts at column 2560. -/
theorem accB5 (hy11 : Carried y11 4 0 Y) (hy12 : Carried y12 4 512 Y) (hy13 : Carried y13 4 1024 Y) (hy14 : Carried y14 4 1536 Y) (hy15 : Carried y15 4 2048 Y) (hy16 : Carried y16 2 2560 Y) (i : S512x1024.Idx) :
    runB.sl.r_83 (F := Ideal) c arg2 harg2 arg3 harg3 arg4 harg4 arg5 harg5 arg6 harg6 arg7 harg7 arg11 harg11 arg12 harg12 arg13 harg13 arg14 harg14 arg15 harg15 arg16 harg16 x2 x3 x4 x5 x6 x7 y11 y12 y13 y14 y15 y16 i
      = downT (gatedT (upT (at3 x2) (at2 x3 0) (wtT x4)) Y (at2 x5) (at2 x6 0)) (wtT x7) 2816 (rowOf (i 0).val) (i 1).val := by
  have h0 := halfB0 c arg2 harg2 arg3 harg3 x2 x3
  have h1 := halfB1 c arg2 harg2 arg3 harg3 x2 x3
  refine acc_next (accB4 c arg2 harg2 arg3 harg3 arg4 harg4 arg5 harg5 arg6 harg6 arg7 harg7 arg11 harg11 arg12 harg12 arg13 harg13 arg14 harg14 arg15 harg15 x2 x3 x4 x5 x6 x7 y11 y12 y13 y14 y15 hy11 hy12 hy13 hy14 hy15) (dot256 (n := 2560) ?_ ?_ (down_block arg7 harg7 x7 rfl rfl)) i
  all_goals refine slab_gated arg16.view rfl rfl rfl rfl ?_ ?_ rfl ?_ ?_
  all_goals
    first
    | repeat refine top_skip _ _ (by decide) ?_
      exact top_base arg16 harg16 hy16 rfl
    | exact slice_rows (up_rows256 h0 h1 (up_block arg4 harg4 x4)) rfl
    | delta runB.sl.r_69 k0_pay637
      exact slice_rows (up_rows256 h0 h1 (up_block arg4 harg4 x4)) rfl

set_option maxHeartbeats 1000000 in
/-- After the chunk that starts at column 2816. -/
theorem accB6 (hy11 : Carried y11 4 0 Y) (hy12 : Carried y12 4 512 Y) (hy13 : Carried y13 4 1024 Y) (hy14 : Carried y14 4 1536 Y) (hy15 : Carried y15 4 2048 Y) (hy16 : Carried y16 2 2560 Y) (hy17 : Carried y17 2 2816 Y) (i : S512x1024.Idx) :
    runB.sl.r_108 (F := Ideal) c arg2 harg2 arg3 harg3 arg4 harg4 arg5 harg5 arg6 harg6 arg7 harg7 arg11 harg11 arg12 harg12 arg13 harg13 arg14 harg14 arg15 harg15 arg16 harg16 arg17 harg17 x2 x3 x4 x5 x6 x7 y11 y12 y13 y14 y15 y16 y17 i
      = downT (gatedT (upT (at3 x2) (at2 x3 0) (wtT x4)) Y (at2 x5) (at2 x6 0)) (wtT x7) 3072 (rowOf (i 0).val) (i 1).val := by
  have h0 := halfB0 c arg2 harg2 arg3 harg3 x2 x3
  have h1 := halfB1 c arg2 harg2 arg3 harg3 x2 x3
  refine acc_next (accB5 c arg2 harg2 arg3 harg3 arg4 harg4 arg5 harg5 arg6 harg6 arg7 harg7 arg11 harg11 arg12 harg12 arg13 harg13 arg14 harg14 arg15 harg15 arg16 harg16 x2 x3 x4 x5 x6 x7 y11 y12 y13 y14 y15 y16 hy11 hy12 hy13 hy14 hy15 hy16) (dot256 (n := 2816) ?_ ?_ (down_block arg7 harg7 x7 rfl rfl)) i
  all_goals refine slab_gated arg17.view rfl rfl rfl rfl ?_ ?_ rfl ?_ ?_
  all_goals
    first
    | repeat refine top_skip _ _ (by decide) ?_
      exact top_base arg17 harg17 hy17 rfl
    | exact slice_rows (up_rows256 h0 h1 (up_block arg4 harg4 x4)) rfl

end

end Cert.KernelIdeal.Channel
-- ==== Proof.Channel.EndB.lean ====
module

public import proofs.«01_k».proof.Proof.Channel.Chunk
public import proofs.«01_k».proof.Proof.Channel.Out
public import proofs.«01_k».proof.Proof.Channel.ValB

/-! # What a later tile of a sequence leaves

The tile of the result, and the last eight rows of the up-projection in each of the seven buffers. -/

@[expose] public section

set_option maxRecDepth 16384

noncomputable section

namespace Cert.KernelIdeal.Channel

open Idealize.ShloMosaic Cert.KernelIdeal Cert.KernelIdeal.Gen Slab

section

variable (c : Dev nD) (arg2 : Memref sig .tc .vmem S1x512x1024 .f32) (harg2 : arg2.IsWhole) (arg3 : Memref sig .tc .vmem S1x1024 .f32) (harg3 : arg3.IsWhole)
  (arg4 : Memref sig .tc .vmem S512x6144 .i32) (harg4 : arg4.IsWhole) (arg5 : Memref sig .tc .vmem S3x6144 .f32) (harg5 : arg5.IsWhole)
  (arg6 : Memref sig .tc .vmem S1x6144 .f32) (harg6 : arg6.IsWhole) (arg7 : Memref sig .tc .vmem S1536x1024 .i32) (harg7 : arg7.IsWhole)
  (arg8 : Memref sig .tc .vmem S1x1024 .f32) (harg8 : arg8.IsWhole) (arg9 : Memref sig .tc .vmem S1x512x1024 .f32) (harg9 : arg9.IsWhole)
  (arg10 : Memref sig .tc .vmem S8x512x128 .f32) (harg10 : arg10.IsWhole)
  (arg11 : Memref sig .tc .vmem S8x520x128 .f32) (harg11 : arg11.IsWhole)
  (arg12 : Memref sig .tc .vmem S8x520x128 .f32) (harg12 : arg12.IsWhole)
  (arg13 : Memref sig .tc .vmem S8x520x128 .f32) (harg13 : arg13.IsWhole)
  (arg14 : Memref sig .tc .vmem S8x520x128 .f32) (harg14 : arg14.IsWhole)
  (arg15 : Memref sig .tc .vmem S8x520x128 .f32) (harg15 : arg15.IsWhole)
  (arg16 : Memref sig .tc .vmem S4x520x128 .f32) (harg16 : arg16.IsWhole)
  (arg17 : Memref sig .tc .vmem S4x520x128 .f32) (harg17 : arg17.IsWhole)
  (x2 : Vec Ideal S1x512x1024 .f32) (x3 : Vec Ideal S1x1024 .f32) (x4 : Vec Ideal S512x6144 .i32) (x5 : Vec Ideal S3x6144 .f32) (x6 : Vec Ideal S1x6144 .f32) (x7 : Vec Ideal S1536x1024 .i32) (x8 : Vec Ideal S1x1024 .f32)
  (y11 : Vec Ideal S8x520x128 .f32)
  (y12 : Vec Ideal S8x520x128 .f32)
  (y13 : Vec Ideal S8x520x128 .f32)
  (y14 : Vec Ideal S8x520x128 .f32)
  (y15 : Vec Ideal S8x520x128 .f32)
  (y16 : Vec Ideal S4x520x128 .f32)
  (y17 : Vec Ideal S4x520x128 .f32)
  {Y : ℕ → ℕ → EReal}
  (i : grid0.Coords) (hc : ¬first i)

set_option maxHeartbeats 1000000 in
/-- The tile plus its channel mix. -/
theorem sumB (hy11 : Carried y11 4 0 Y) (hy12 : Carried y12 4 512 Y) (hy13 : Carried y13 4 1024 Y) (hy14 : Carried y14 4 1536 Y) (hy15 : Carried y15 4 2048 Y) (hy16 : Carried y16 2 2560 Y) (hy17 : Carried y17 2 2816 Y) (j : S512x1024.Idx) :
    runB.sl.r_111 (F := Ideal) c arg2 harg2 arg3 harg3 arg4 harg4 arg5 harg5 arg6 harg6 arg7 harg7 arg10 arg11 harg11 arg12 harg12 arg13 harg13 arg14 harg14 arg15 harg15 arg16 harg16 arg17 harg17 x2 x3 x4 x5 x6 x7 y11 y12 y13 y14 y15 y16 y17 j
      = at3 x2 (j 0).val (j 1).val + (downT (gatedT (upT (at3 x2) (at2 x3 0) (wtT x4)) Y (at2 x5) (at2 x6 0)) (wtT x7) 3072) (j 0).val (j 1).val := by
  have hA := accB6 c arg2 harg2 arg3 harg3 arg4 harg4 arg5 harg5 arg6 harg6 arg7 harg7 arg11 harg11 arg12 harg12 arg13 harg13 arg14 harg14 arg15 harg15 arg16 harg16 arg17 harg17 x2 x3 x4 x5 x6 x7 y11 y12 y13 y14 y15 y16 y17 hy11 hy12 hy13 hy14 hy15 hy16 hy17
  refine mix_sum (G := (downT (gatedT (upT (at3 x2) (at2 x3 0) (wtT x4)) Y (at2 x5) (at2 x6 0)) (wtT x7) 3072)) (tile_rows arg2 harg2 x2) ?_ ?_ ?_ ?_ ?_ ?_ ?_ ?_ j
  all_goals refine mix_load arg10.view ?_
  all_goals repeat refine mix_skip _ _ (by decide) ?_
  all_goals
    refine mix_pair _ _ ?_ ?_
    · refine half_odd (h := ?_) hA <;> decide
    · first
      | refine half_even (h := ?_) hA <;> decide
      | delta runB.sl.r_109 k0_pay709
        refine half_even (h := ?_) hA <;> decide

/-- The tile of the result. -/
theorem resultB (hy11 : Carried y11 4 0 Y) (hy12 : Carried y12 4 512 Y) (hy13 : Carried y13 4 1024 Y) (hy14 : Carried y14 4 1536 Y) (hy15 : Carried y15 4 2048 Y) (hy16 : Carried y16 2 2560 Y) (hy17 : Carried y17 2 2816 Y) (f : arg9.view.ty.Contents (Elt Ideal)) (j : S1x512x1024.Idx) :
    arg9.view.read (Elt Ideal) (arg9.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).1) j
      = nrmT (fun r e => at3 x2 r e + downT (gatedT (upT (at3 x2) (at2 x3 0) (wtT x4)) Y (at2 x5) (at2 x6 0)) (wtT x7) 3072 r e) (at2 x8 0) (j 1).val (j 2).val := by
  refine (View.read_writes_cons_hit_of_coords arg9.view f (Rect.unit (s := S1x512x1024) ![0, 0, 0] S1x512x1024.size _) _ _ j j ?_).trans
    (out_rows (sumB c arg2 harg2 arg3 harg3 arg4 harg4 arg5 harg5 arg6 harg6 arg7 harg7 arg10 arg11 harg11 arg12 harg12 arg13 harg13 arg14 harg14 arg15 harg15 arg16 harg16 arg17 harg17 x2 x3 x4 x5 x6 x7 y11 y12 y13 y14 y15 y16 y17 hy11 hy12 hy13 hy14 hy15 hy16 hy17) (gain_row arg8 harg8 x8) j)
  intro a
  match a with
  | ⟨0, _⟩ => exact (Nat.zero_add _).trans (Nat.one_mul _) |>.symm
  | ⟨1, _⟩ => exact (Nat.zero_add _).trans (Nat.one_mul _) |>.symm
  | ⟨2, _⟩ => exact (Nat.zero_add _).trans (Nat.one_mul _) |>.symm

set_option maxHeartbeats 1000000 in
/-- The rows left for the tile that follows, columns from 0 on. -/
theorem carryB11 (f : arg11.view.ty.Contents (Elt Ideal)) :
    Carried (arg11.view.read (Elt Ideal) (arg11.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.1)) 4 0
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg11.view f ?_
  intro k hk
  interval_cases k
  all_goals
    repeat refine top_skip _ _ (by decide) ?_
    refine top_hit _ _ (load_tail arg11.view ?_)
    first
    | exact slice_rows (up_rows512 h0 h1 (up_block arg4 harg4 x4)) rfl

set_option maxHeartbeats 1000000 in
/-- The rows left for the tile that follows, columns from 512 on. -/
theorem carryB12 (f : arg12.view.ty.Contents (Elt Ideal)) :
    Carried (arg12.view.read (Elt Ideal) (arg12.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.1)) 4 512
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg12.view f ?_
  intro k hk
  interval_cases k
  all_goals
    repeat refine top_skip _ _ (by decide) ?_
    refine top_hit _ _ (load_tail arg12.view ?_)
    first
    | exact slice_rows (up_rows512 h0 h1 (up_block arg4 harg4 x4)) rfl

set_option maxHeartbeats 1000000 in
/-- The rows left for the tile that follows, columns from 1024 on. -/
theorem carryB13 (f : arg13.view.ty.Contents (Elt Ideal)) :
    Carried (arg13.view.read (Elt Ideal) (arg13.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.2.1)) 4 1024
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg13.view f ?_
  intro k hk
  interval_cases k
  all_goals
    repeat refine top_skip _ _ (by decide) ?_
    refine top_hit _ _ (load_tail arg13.view ?_)
    first
    | exact slice_rows (up_rows512 h0 h1 (up_block arg4 harg4 x4)) rfl

set_option maxHeartbeats 1000000 in
/-- The rows left for the tile that follows, columns from 1536 on. -/
theorem carryB14 (f : arg14.view.ty.Contents (Elt Ideal)) :
    Carried (arg14.view.read (Elt Ideal) (arg14.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.2.2.1)) 4 1536
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg14.view f ?_
  intro k hk
  interval_cases k
  all_goals
    repeat refine top_skip _ _ (by decide) ?_
    refine top_hit _ _ (load_tail arg14.view ?_)
    first
    | exact slice_rows (up_rows512 h0 h1 (up_block arg4 harg4 x4)) rfl
    | delta runB.sl.r_30 k0_pay395
      exact slice_rows (up_rows512 h0 h1 (up_block arg4 harg4 x4)) rfl

set_option maxHeartbeats 1000000 in
/-- The rows left for the tile that follows, columns from 2048 on. -/
theorem carryB15 (f : arg15.view.ty.Contents (Elt Ideal)) :
    Carried (arg15.view.read (Elt Ideal) (arg15.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.2.2.2.1)) 4 2048
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg15.view f ?_
  intro k hk
  interval_cases k
  all_goals
    repeat refine top_skip _ _ (by decide) ?_
    refine top_hit _ _ (load_tail arg15.view ?_)
    first
    | exact slice_rows (up_rows512 h0 h1 (up_block arg4 harg4 x4)) rfl

set_option maxHeartbeats 1000000 in
/-- The rows left for the tile that follows, columns from 2560 on. -/
theorem carryB16 (f : arg16.view.ty.Contents (Elt Ideal)) :
    Carried (arg16.view.read (Elt Ideal) (arg16.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.2.2.2.2.1)) 2 2560
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg16.view f ?_
  intro k hk
  interval_cases k
  all_goals
    repeat refine top_skip _ _ (by decide) ?_
    refine top_hit _ _ (load_tail arg16.view ?_)
    first
    | exact slice_rows (up_rows256 h0 h1 (up_block arg4 harg4 x4)) rfl
    | delta runB.sl.r_69 k0_pay637
      exact slice_rows (up_rows256 h0 h1 (up_block arg4 harg4 x4)) rfl

set_option maxHeartbeats 1000000 in
/-- The rows left for the tile that follows, columns from 2816 on. -/
theorem carryB17 (f : arg17.view.ty.Contents (Elt Ideal)) :
    Carried (arg17.view.read (Elt Ideal) (arg17.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.2.2.2.2.2.1)) 2 2816
      (fun r C => (upT (at3 x2) (at2 x3 0) (wtT x4)) (504 + r) C) := by
  have h0 := halfB0 c arg2 harg2 arg3 harg3 x2 x3
  have h1 := halfB1 c arg2 harg2 arg3 harg3 x2 x3
  refine carried_of_top arg17.view f ?_
  intro k hk
  interval_cases k
  all_goals
    repeat refine top_skip _ _ (by decide) ?_
    refine top_hit _ _ (load_tail arg17.view ?_)
    first
    | exact slice_rows (up_rows256 h0 h1 (up_block arg4 harg4 x4)) rfl

end

end Cert.KernelIdeal.Channel
-- ==== Proof.Channel.StepB.lean ====
module

public import proofs.«01_k».proof.Proof.Channel.Kept
public import proofs.«01_k».proof.Proof.Channel.EndB
public import Idealize.ShloMosaic.Lib.Pipeline.FrameBody

@[expose] public section

set_option maxRecDepth 16384

noncomputable section

namespace Cert.KernelIdeal.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- A later tile of a sequence: the body leaves the tile `T` of the result and the rows `W` for the next tile. -/
theorem stepB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S512x6144 .i32) (harg4 : arg4.IsWhole) (arg5 : Memref sig .tc .vmem S3x6144 .f32) (harg5 : arg5.IsWhole) (arg6 : Memref sig .tc .vmem S1x6144 .f32) (harg6 : arg6.IsWhole) (arg7 : Memref sig .tc .vmem S1536x1024 .i32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x512x128 .f32) (harg10 : arg10.IsWhole) (arg11 : Memref sig .tc .vmem S8x520x128 .f32) (harg11 : arg11.IsWhole) (arg12 : Memref sig .tc .vmem S8x520x128 .f32) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S4x520x128 .f32) (harg16 : arg16.IsWhole) (arg17 : Memref sig .tc .vmem S4x520x128 .f32) (harg17 : arg17.IsWhole) (hc : ¬ first i)
    (x2 : Vec Ideal S1x512x1024 .f32) (x3 : Vec Ideal S1x1024 .f32) (x4 : Vec Ideal S512x6144 .i32) (x5 : Vec Ideal S3x6144 .f32) (x6 : Vec Ideal S1x6144 .f32) (x7 : Vec Ideal S1536x1024 .i32) (x8 : Vec Ideal S1x1024 .f32) (Y : ℕ → ℕ → EReal) (T : Vec Ideal S1x512x1024 .f32) (W : ℕ → ℕ → EReal)
    (hT : ∀ j : S1x512x1024.Idx, nrmT (fun r e => at3 x2 r e + downT (gatedT (upT (at3 x2) (at2 x3 0) (wtT x4)) Y (at2 x5) (at2 x6 0)) (wtT x7) 3072 r e) (at2 x8 0) (j 1).val (j 2).val = T j)
    (hW : ∀ r C, r < 8 → upT (at3 x2) (at2 x3 0) (wtT x4) (504 + r) C = W r C) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ kept c arg11 4 0 Y ∗ kept c arg12 4 512 Y ∗ kept c arg13 4 1024 Y ∗ kept c arg14 4 1536 Y ∗ kept c arg15 4 2048 Y ∗ kept c arg16 2 2560 Y ∗ kept c arg17 2 2816 Y
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare T ∗ (∃ d, owns (c : Thread nD τ) arg10 fullShare d) ∗ kept c arg11 4 0 W ∗ kept c arg12 4 512 W ∗ kept c arg13 4 1024 W ∗ kept c arg14 4 1536 W ∗ kept c arg15 4 2048 W ∗ kept c arg16 2 2560 W ∗ kept c arg17 2 2816 W) -∗ K ⟨⟩))
      ⊢ wp frame (wpE (defs₀ (F := Ideal)) Variants.none c none) E (cc0_channel_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [kept_def c _ _ _ Y]
  iintro ⟨H2, H3, H4, H5, H6, H7, H8, H9, H10, ⟨%y11, %h11, H11⟩, ⟨%y12, %h12, H12⟩, ⟨%y13, %h13, H13⟩, ⟨%y14, %h14, H14⟩, ⟨%y15, %h15, H15⟩, ⟨%y16, %h16, H16⟩, ⟨%y17, %h17, H17⟩, HK⟩
  iapply (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x2 x3 x4 x5 x6 x7 x8 y11 y12 y13 y14 y15 y16 y17).2.2.2.2.2.2.2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_of_writes c arg9 _ T fun f => funext fun j => (resultB c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc h11 h12 h13 h14 h15 h16 h17 f j).trans (hT j)); iexact H9
  isplitl [H10]; · iapply (some_of_writes c arg10 _); iexact H10
  isplitl [H11]; · iapply (kept_of_writes c arg11 _ fun f => (carryB11 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H11
  isplitl [H12]; · iapply (kept_of_writes c arg12 _ fun f => (carryB12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H12
  isplitl [H13]; · iapply (kept_of_writes c arg13 _ fun f => (carryB13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H13
  isplitl [H14]; · iapply (kept_of_writes c arg14 _ fun f => (carryB14 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H14
  isplitl [H15]; · iapply (kept_of_writes c arg15 _ fun f => (carryB15 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H15
  isplitl [H16]; · iapply (kept_of_writes c arg16 _ fun f => (carryB16 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H16
  iapply (kept_of_writes c arg17 _ fun f => (carryB17 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 y11 y12 y13 y14 y15 y16 y17 i hc f).congr hW); iexact H17

end Cert.KernelIdeal.Channel

end
-- ==== Proof.Channel.Sequence.lean ====
module

public import proofs.«01_k».proof.Proof.Channel.Chunk

/-! # What the channel mixer computes of a whole sequence, and why a tile computes its share of it

The functions of `Tile.lean` again, of the rows of a whole sequence: nothing is carried, the convolution reads zeros before
the first row. -/

@[expose] public section

noncomputable section

namespace Cert.KernelIdeal.Channel

open Idealize.ShloMosaic Slab

/-- Sequence `b` of the input as a function of row and column, zero outside. -/
def rowsX (X : (⟨3, ![4, 8192, 1024]⟩ : Shape).Idx → EReal) (b r e : ℕ) : EReal :=
  if h : b < 4 ∧ r < 8192 ∧ e < 1024 then X (ix3 ⟨b, h.1⟩ ⟨r, h.2.1⟩ ⟨e, h.2.2⟩) else 0

theorem rowsX_eq (X : (⟨3, ![4, 8192, 1024]⟩ : Shape).Idx → EReal) (i : (⟨3, ![4, 8192, 1024]⟩ : Shape).Idx) {b r e : ℕ}
    (hb : b = (i 0).val) (hr : r = (i 1).val) (he : e = (i 2).val) : rowsX X b r e = X i := by
  subst hb hr he
  unfold rowsX
  rw [dif_pos ⟨(i 0).isLt, (i 1).isLt, (i 2).isLt⟩]
  congr 1
  exact (eq_ix3 i).symm

/-- The row `k` before row `r`, zero before the first. -/
def back (U : ℕ → ℕ → EReal) (k r C : ℕ) : EReal := if k ≤ r then U (r - k) C else 0

/-- The causal convolution of three taps. -/
def convS (U W : ℕ → ℕ → EReal) (B : ℕ → EReal) (r C : ℕ) : EReal :=
  B C + W 2 C * back U 0 r C + W 1 C * back U 1 r C + W 0 C * back U 2 r C

/-- The gated value of row `r` in column `d` of 3072. -/
def gatedS (U W : ℕ → ℕ → EReal) (B : ℕ → EReal) (r d : ℕ) : EReal :=
  gateT (convS U W B r d) (convS U W B r (3072 + d))

/-- The channel mixer's row with the residual added, before the last normalisation. -/
def mixS (x : ℕ → ℕ → EReal) (g : ℕ → EReal) (w W : ℕ → ℕ → EReal) (B : ℕ → EReal) (D : ℕ → ℕ → EReal) (r e : ℕ) : EReal :=
  x r e + downT (gatedS (upT x g w) W B) D 3072 r e

/-- What a tile finds carried when it starts at row `o`: the eight rows before it, zeros at the start of a sequence. -/
def carryS (U : ℕ → ℕ → EReal) (o r C : ℕ) : EReal := if o = 0 then 0 else U (o - 8 + r) C

section

variable {x X : ℕ → ℕ → EReal} {g : ℕ → EReal} {w W : ℕ → ℕ → EReal} {B : ℕ → EReal} {D : ℕ → ℕ → EReal} {g2 : ℕ → EReal} {o : ℕ}

/-- A normalised row depends on that row alone. -/
theorem nrmT_congr {y z : ℕ → ℕ → EReal} {q p k : ℕ} (hk : k < 1024) (h : ∀ e, e < 1024 → y q e = z p e) :
    nrmT y g q k = nrmT z g p k := by
  unfold nrmT
  rw [h k hk, Finset.sum_congr rfl fun c hc => by rw [h c (Finset.mem_range.1 hc)]]

/-- A row of the tile's up-projection is the sequence's. -/
theorem upT_shift (hx : ∀ r e, r < 512 → e < 1024 → x r e = X (o + r) e) {r : ℕ} (hr : r < 512) (C : ℕ) :
    upT x g w r C = upT X g w (o + r) C :=
  Finset.sum_congr rfl fun k hk => by rw [nrmT_congr (Finset.mem_range.1 hk) fun e he => hx r e hr he]

/-- A row the convolution reads, in the tile or carried. -/
theorem prev_shift (hx : ∀ r e, r < 512 → e < 1024 → x r e = X (o + r) e) (ho : o = 0 ∨ 8 ≤ o) {q k j : ℕ} (hq : q < 512) (hk : k ≤ 2)
    (hj : j + k = 8 + q) (C : ℕ) : prev (upT x g w) (carryS (upT X g w) o) j C = back (upT X g w) k (o + q) C := by
  unfold prev back carryS
  by_cases h8 : j < 8
  · rw [if_pos h8]
    by_cases h0 : o = 0
    · rw [if_pos h0, if_neg (by omega)]
    · rw [if_neg h0, if_pos (by omega)]
      congr 1
      omega
  · rw [if_neg h8, if_pos (by omega), upT_shift hx (by omega)]
    congr 1
    omega

/-- The tile's convolution is the sequence's. -/
theorem convT_shift (hx : ∀ r e, r < 512 → e < 1024 → x r e = X (o + r) e) (ho : o = 0 ∨ 8 ≤ o) {q : ℕ} (hq : q < 512) (C : ℕ) :
    convT (upT x g w) (carryS (upT X g w) o) W B q C = convS (upT X g w) W B (o + q) C := by
  unfold convT convS
  rw [prev_shift (k := 0) hx ho hq (by omega) (by omega), prev_shift (k := 1) hx ho hq (by omega) (by omega),
    prev_shift (k := 2) hx ho hq (by omega) (by omega)]

/-- The tile's result is its share of the sequence's. -/
theorem tile_share (hx : ∀ r e, r < 512 → e < 1024 → x r e = X (o + r) e) (ho : o = 0 ∨ 8 ≤ o) {q e : ℕ} (hq : q < 512) (he : e < 1024) :
    nrmT (fun r e => x r e + downT (gatedT (upT x g w) (carryS (upT X g w) o) W B) D 3072 r e) g2 q e
      = nrmT (mixS X g w W B D) g2 (o + q) e := by
  refine nrmT_congr he fun e' he' => ?_
  unfold mixS downT gatedT gatedS
  rw [hx q e' hq he']
  simp only [convT_shift hx ho hq]

/-- The rows a tile leaves carried are those before the next tile. -/
theorem carry_share (hx : ∀ r e, r < 512 → e < 1024 → x r e = X (o + r) e) {p r : ℕ} (hp : p = o + 512) (hr : r < 8) (C : ℕ) :
    upT x g w (504 + r) C = carryS (upT X g w) p r C := by
  unfold carryS
  rw [if_neg (by omega), upT_shift hx (by omega)]
  congr 1
  omega

end

end Cert.KernelIdeal.Channel
-- ==== Proof.Channel.Blocks.lean ====
module

public import proofs.«01_k».proof.Proof.Channel.Sequence
public import proofs.«01_k».proof.Proof.Gen.KernelIdeal.Frame
public import Idealize.ShloMosaic.Lib.Pipeline.ValueKit
public import Idealize.ShloMosaic.Lib.Decide

/-! # The blocks of a grid point, in the argument arrays

Point `t` is tile `t % 16` of sequence `t / 16`: the tile's block is 512 rows of the input, every other block is its whole array. -/

@[expose] public section

set_option maxRecDepth 16384

noncomputable section

namespace Cert.KernelIdeal.Channel

open Idealize.ShloMosaic Idealize.ShloMosaic.TcCoe Idealize.ShloMosaic.Tactic
open Cert.KernelIdeal Cert.KernelIdeal.Gen

/-- The tile's block index. -/
theorem index0 : ∀ t : Fin grid0.N, win0_0.index t 0 = t.val / 16 ∧ win0_0.index t 1 = t.val % 16 ∧ win0_0.index t 2 = 0 := by
  decide +kernel
/-- The result's block index. -/
theorem index7 : ∀ t : Fin grid0.N, win0_7.index t 0 = t.val / 16 ∧ win0_7.index t 1 = t.val % 16 ∧ win0_7.index t 2 = 0 := by
  decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel

variable (m : (ℓ : Loc nD τ sig) → Buf (Elt Ideal) ℓ) (c : Dev nD)

/-- The first gain is read whole. -/
theorem iblk1 (t : Fin cfg0.N) : iblk m c 1 t = m ((c : Thread nD τ).loc main_arg1) := by
  blk_ext! [iblk, V, index1 t]
/-- The up-projection's words are read whole. -/
theorem iblk2 (t : Fin cfg0.N) : iblk m c 2 t = m ((c : Thread nD τ).loc main_arg2) := by
  blk_ext! [iblk, V, index2 t]
/-- The convolution's taps are read whole. -/
theorem iblk3 (t : Fin cfg0.N) : iblk m c 3 t = m ((c : Thread nD τ).loc main_arg3) := by
  blk_ext! [iblk, V, index3 t]
/-- The convolution's bias is read whole. -/
theorem iblk4 (t : Fin cfg0.N) : iblk m c 4 t = m ((c : Thread nD τ).loc main_arg4) := by
  blk_ext! [iblk, V, index4 t]
/-- The down-projection's words are read whole. -/
theorem iblk5 (t : Fin cfg0.N) : iblk m c 5 t = m ((c : Thread nD τ).loc main_arg5) := by
  blk_ext! [iblk, V, index5 t]
/-- The last gain is read whole. -/
theorem iblk6 (t : Fin cfg0.N) : iblk m c 6 t = m ((c : Thread nD τ).loc main_arg6) := by
  blk_ext! [iblk, V, index6 t]

/-- The tile's rows are rows of its sequence. -/
theorem tile_iblk (t : Fin cfg0.N) (r e : ℕ) (hr : r < 512) (he : e < 1024) :
    at3 (iblk m c 0 t) r e = rowsX (m ((c : Thread nD τ).loc main_arg0)) (t.val / 16) (512 * (t.val % 16) + r) e := by
  unfold at3
  rw [dif_pos ⟨hr, he⟩]
  blk_simp [iblk, V]
  refine (rowsX_eq _ _ ?_ ?_ ?_).symm
  · blk_simp [index0 t]
    simp
  · blk_simp [index0 t]
    show _ = t.val % 16 * 512 + r
    omega
  · blk_simp [index0 t]

end Cert.KernelIdeal.Channel

end
-- ==== Proof.Channel.Track.lean ====
module

public import proofs.«01_k».proof.Proof.Channel.StepA
public import proofs.«01_k».proof.Proof.Channel.StepB
public import proofs.«01_k».proof.Proof.Channel.Blocks
public import proofs.«01_k».proof.Proof.Channel.Sequence
public import proofs.«01_k».proof.Proof.Gen.KernelIdeal.Frame
public import Idealize.ShloMosaic.Lib.Pipeline.FrameBody
public import Idealize.ShloMosaic.Lib.WordCmp
public import Idealize.ShloMosaic.Lib.Claim
public import Idealize.ShloMosaic.Lib.Pipeline.ValueKit

/-! # The launch of the channel mixer at the ideal values

The sixteen tiles of a sequence follow each other; seven buffers carry the last eight rows of the up-projection from a tile to
the next. After every point the result's block is the tile of the channel mixer of the whole sequence. -/

@[expose] public section

set_option maxRecDepth 16384

noncomputable section

namespace Cert.KernelIdeal.Channel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Slab

local notation "𝕄" => MT nD τ sig Unit (Elt Ideal) ℕ (UR sig nD τ) ℕ

variable (m : (ℓ : Loc nD τ sig) → Buf (Elt Ideal) ℓ) (ρ : Dev nD → PrngReg)

/-! ## The buffers of one grid point -/

/-- The staging buffer of window 0 at point `t`. -/
abbrev ms0 (t : Fin cfg0.N) : Memref sig .tc .vmem S1x512x1024 .f32 := win0_0.stage (cfg0.slots t 0)
/-- The staging buffer of window 1 at point `t`. -/
abbrev ms1 (t : Fin cfg0.N) : Memref sig .tc .vmem S1x1024 .f32 := win0_1.stage (cfg0.slots t 1)
/-- The staging buffer of window 2 at point `t`. -/
abbrev ms2 (t : Fin cfg0.N) : Memref sig .tc .vmem S512x6144 .i32 := win0_2.stage (cfg0.slots t 2)
/-- The staging buffer of window 3 at point `t`. -/
abbrev ms3 (t : Fin cfg0.N) : Memref sig .tc .vmem S3x6144 .f32 := win0_3.stage (cfg0.slots t 3)
/-- The staging buffer of window 4 at point `t`. -/
abbrev ms4 (t : Fin cfg0.N) : Memref sig .tc .vmem S1x6144 .f32 := win0_4.stage (cfg0.slots t 4)
/-- The staging buffer of window 5 at point `t`. -/
abbrev ms5 (t : Fin cfg0.N) : Memref sig .tc .vmem S1536x1024 .i32 := win0_5.stage (cfg0.slots t 5)
/-- The staging buffer of window 6 at point `t`. -/
abbrev ms6 (t : Fin cfg0.N) : Memref sig .tc .vmem S1x1024 .f32 := win0_6.stage (cfg0.slots t 6)
/-- The staging buffer of window 7 at point `t`. -/
abbrev ms7 (t : Fin cfg0.N) : Memref sig .tc .vmem S1x512x1024 .f32 := win0_7.stage (cfg0.slots t 7)
/-- Scratch buffer 0. -/
abbrev sc0 : Memref sig .tc .vmem S8x512x128 .f32 := Memref.whole cc0_scratch0
/-- Scratch buffer 1. -/
abbrev sc1 : Memref sig .tc .vmem S8x520x128 .f32 := Memref.whole cc0_scratch1
/-- Scratch buffer 2. -/
abbrev sc2 : Memref sig .tc .vmem S8x520x128 .f32 := Memref.whole cc0_scratch2
/-- Scratch buffer 3. -/
abbrev sc3 : Memref sig .tc .vmem S8x520x128 .f32 := Memref.whole cc0_scratch3
/-- Scratch buffer 4. -/
abbrev sc4 : Memref sig .tc .vmem S8x520x128 .f32 := Memref.whole cc0_scratch4
/-- Scratch buffer 5. -/
abbrev sc5 : Memref sig .tc .vmem S8x520x128 .f32 := Memref.whole cc0_scratch5
/-- Scratch buffer 6. -/
abbrev sc6 : Memref sig .tc .vmem S4x520x128 .f32 := Memref.whole cc0_scratch6
/-- Scratch buffer 7. -/
abbrev sc7 : Memref sig .tc .vmem S4x520x128 .f32 := Memref.whole cc0_scratch7

/-- What the launch hands over: every scratch buffer at some contents, and the generator. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-! ## What the launch computes -/

/-- The up-projection of sequence `b`, row by row. -/
def upS (c : Dev nD) (b : ℕ) : ℕ → ℕ → EReal :=
  upT (rowsX (m ((c : Thread nD τ).loc main_arg0)) b) (at2 (m ((c : Thread nD τ).loc main_arg1)) 0) (wtT (m ((c : Thread nD τ).loc main_arg2)))

/-- Row `r`, column `e` of the result for sequence `b`. -/
def outS (c : Dev nD) (b r e : ℕ) : EReal :=
  nrmT (mixS (rowsX (m ((c : Thread nD τ).loc main_arg0)) b) (at2 (m ((c : Thread nD τ).loc main_arg1)) 0) (wtT (m ((c : Thread nD τ).loc main_arg2)))
    (at2 (m ((c : Thread nD τ).loc main_arg3))) (at2 (m ((c : Thread nD τ).loc main_arg4)) 0) (wtT (m ((c : Thread nD τ).loc main_arg5))))
    (at2 (m ((c : Thread nD τ).loc main_arg6)) 0) r e

/-- Point `t`'s tile of the result. -/
def tileS (c : Dev nD) (t : ℕ) : Vec Ideal S1x512x1024 .f32 := fun j => outS m c (t / 16) (512 * (t % 16) + (j 1).val) (j 2).val

/-- The tile a point leaves, from what it finds carried. -/
theorem tile_at (c : Dev nD) (t : Fin cfg0.N) (j : S1x512x1024.Idx) :
    nrmT (fun r e => at3 (iblk m c 0 t) r e + downT (gatedT (upT (at3 (iblk m c 0 t)) (at2 (iblk m c 1 t) 0) (wtT (iblk m c 2 t)))
      (carryS (upS m c (t.val / 16)) (512 * (t.val % 16))) (at2 (iblk m c 3 t)) (at2 (iblk m c 4 t) 0)) (wtT (iblk m c 5 t)) 3072 r e)
      (at2 (iblk m c 6 t) 0) (j 1).val (j 2).val = tileS m c t.val j := by
  rw [iblk1, iblk2, iblk3, iblk4, iblk5, iblk6]
  exact tile_share (tile_iblk m c t) (by omega) (j 1).isLt (j 2).isLt

/-- The rows a point leaves for the next one. -/
theorem rows_at (c : Dev nD) (t : Fin cfg0.N) (r C : ℕ) (hr : r < 8) :
    upT (at3 (iblk m c 0 t)) (at2 (iblk m c 1 t) 0) (wtT (iblk m c 2 t)) (504 + r) C
      = carryS (upS m c (t.val / 16)) (512 * (t.val % 16) + 512) r C := by
  rw [iblk1, iblk2]
  exact carry_share (tile_iblk m c t) rfl hr C

/-- Nothing is carried into the first tile of a sequence. -/
theorem carry_first (c : Dev nD) (t : Fin cfg0.N) (ht : t.val % 16 = 0) :
    carryS (upS m c (t.val / 16)) (512 * (t.val % 16)) = fun _ _ => 0 := by
  funext r C; unfold carryS; rw [if_pos (by omega)]

/-! ## The proof data -/

/-- A buffer at point `t`: within a sequence it carries the eight rows before the tile. -/
def held {R : ℕ} (c : Dev nD) (a : Memref sig .tc .vmem (⟨3, ![R, 520, 128]⟩ : Shape) .f32) (n c0 t : ℕ) : sProp 𝕄 :=
  iprop(∃ d, ⌜t % 16 ≠ 0 → Carried d n c0 (carryS (upS m c (t / 16)) (512 * (t % 16)))⌝ ∗ owns (c : Thread nD τ) a fullShare d)

section

variable {R : ℕ} (c : Dev nD) (a : Memref sig .tc .vmem (⟨3, ![R, 520, 128]⟩ : Shape) .f32) (n c0 : ℕ)

/-- At the launch nothing is asked of a buffer. -/
theorem held_zero : (iprop(∃ d, owns (c : Thread nD τ) a fullShare d) : sProp 𝕄) ⊢ held m c a n c0 0 := by
  unfold held
  iintro ⟨%d, H⟩
  iexists d; isplitr
  · ipureintro; exact fun h => absurd rfl h
  iexact H

/-- What is held is in particular owned. -/
theorem some_of_held (t : ℕ) : (held m c a n c0 t : sProp 𝕄) ⊢ iprop(∃ d, owns (c : Thread nD τ) a fullShare d) := by
  unfold held
  iintro ⟨%d, %_h, H⟩
  iexists d
  iexact H

/-- Within a sequence, what is held is what the body expects. -/
theorem kept_of_held (t : ℕ) (ht : t % 16 ≠ 0) :
    (held m c a n c0 t : sProp 𝕄) ⊢ kept c a n c0 (carryS (upS m c (t / 16)) (512 * (t % 16))) := by
  unfold held kept
  iintro ⟨%d, %h, H⟩
  iexists d; isplitr
  · ipureintro; exact h ht
  iexact H

/-- What the body leaves is what the next point holds. -/
theorem held_of_kept (t : ℕ) :
    (kept c a n c0 (carryS (upS m c (t / 16)) (512 * (t % 16) + 512)) : sProp 𝕄) ⊢ held m c a n c0 (t + 1) := by
  unfold held kept
  iintro ⟨%d, %h, H⟩
  iexists d; isplitr
  · ipureintro
    intro ht
    rw [show (t + 1) / 16 = t / 16 by omega, show 512 * ((t + 1) % 16) = 512 * (t % 16) + 512 by omega]
    exact h
  iexact H

end

/-- Between points: the accumulator at some contents, the seven buffers with the rows they carry, and the generator. -/
def between (c : Dev nD) (t : ℕ) : sProp 𝕄 :=
  iprop(iprop((∃ d, owns (c : Thread nD τ) sc0 fullShare d) ∗ held m c sc1 4 0 t ∗ held m c sc2 4 512 t ∗ held m c sc3 4 1024 t ∗ held m c sc4 4 1536 t ∗ held m c sc5 4 2048 t ∗ held m c sc6 2 2560 t ∗ held m c sc7 2 2816 t) ∗ (∃ r, prngReg c r))

/-- After a point an input's staging buffer holds its block, and the result's its tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileS m c t.val
    | ⟨_ + 8, h⟩ => absurd h (Nat.not_lt.2 (Nat.le_add_left _ _))
  Φ t := between m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d

theorem after7 (c : Dev nD) (t : Fin cfg0.N) : (dats m 0 c).after 7 t = tileS m c t.val := by dsimp only [dats]

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- The body is sound at every point, whichever side of its conditional the point takes. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.succ = between m c (t.val + 1) from rfl, show (dats m 0 c).Φ t.castSucc = between m c t.val from rfl]
  unfold between
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases ht : t.val % 16 = 0
  · iapply (stepA c (grid0.coords t) _ _ _ _ _ _ _ _ _ _ _ _ _ _ _ _ _ _ _ _ _ _ _ _ _ _ _ _ _ _ _ _ ((first_iff t).2 ht) (iblk m c 0 t) (iblk m c 1 t) (iblk m c 2 t) (iblk m c 3 t) (iblk m c 4 t) (iblk m c 5 t) (iblk m c 6 t) (tileS m c t.val) (carryS (upS m c (t.val / 16)) (512 * (t.val % 16) + 512)) (fun j => by rw [← carry_first m c t ht]; exact tile_at m c t j) (fun r C hr => rows_at m c t r C hr) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iapply (some_of_held m c sc1 4 0 t.val); iexact S1
    isplitl [S2]; · iapply (some_of_held m c sc2 4 512 t.val); iexact S2
    isplitl [S3]; · iapply (some_of_held m c sc3 4 1024 t.val); iexact S3
    isplitl [S4]; · iapply (some_of_held m c sc4 4 1536 t.val); iexact S4
    isplitl [S5]; · iapply (some_of_held m c sc5 4 2048 t.val); iexact S5
    isplitl [S6]; · iapply (some_of_held m c sc6 2 2560 t.val); iexact S6
    isplitl [S7]; · iapply (some_of_held m c sc7 2 2816 t.val); iexact S7
    iintro ⟨H0, H1, H2, H3, H4, H5, H6, H7, S0, S1, S2, S3, S4, S5, S6, S7⟩
    isplitl [S0 S1 S2 S3 S4 S5 S6 S7 Hg]
    · isplitl [S0 S1 S2 S3 S4 S5 S6 S7]
      · isplitl [S0]; · iexact S0
        isplitl [S1]; · iapply (held_of_kept m c sc1 4 0 t.val); iexact S1
        isplitl [S2]; · iapply (held_of_kept m c sc2 4 512 t.val); iexact S2
        isplitl [S3]; · iapply (held_of_kept m c sc3 4 1024 t.val); iexact S3
        isplitl [S4]; · iapply (held_of_kept m c sc4 4 1536 t.val); iexact S4
        isplitl [S5]; · iapply (held_of_kept m c sc5 4 2048 t.val); iexact S5
        isplitl [S6]; · iapply (held_of_kept m c sc6 2 2560 t.val); iexact S6
        iapply (held_of_kept m c sc7 2 2816 t.val); iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (stepB c (grid0.coords t) _ _ _ _ _ _ _ _ _ _ _ _ _ _ _ _ _ _ _ _ _ _ _ _ _ _ _ _ _ _ _ _ (fun h => ht ((first_iff t).1 h)) (iblk m c 0 t) (iblk m c 1 t) (iblk m c 2 t) (iblk m c 3 t) (iblk m c 4 t) (iblk m c 5 t) (iblk m c 6 t) (carryS (upS m c (t.val / 16)) (512 * (t.val % 16))) (tileS m c t.val) (carryS (upS m c (t.val / 16)) (512 * (t.val % 16) + 512)) (fun j => tile_at m c t j) (fun r C hr => rows_at m c t r C hr) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iapply (kept_of_held m c sc1 4 0 t.val ht); iexact S1
    isplitl [S2]; · iapply (kept_of_held m c sc2 4 512 t.val ht); iexact S2
    isplitl [S3]; · iapply (kept_of_held m c sc3 4 1024 t.val ht); iexact S3
    isplitl [S4]; · iapply (kept_of_held m c sc4 4 1536 t.val ht); iexact S4
    isplitl [S5]; · iapply (kept_of_held m c sc5 4 2048 t.val ht); iexact S5
    isplitl [S6]; · iapply (kept_of_held m c sc6 2 2560 t.val ht); iexact S6
    isplitl [S7]; · iapply (kept_of_held m c sc7 2 2816 t.val ht); iexact S7
    iintro ⟨H0, H1, H2, H3, H4, H5, H6, H7, S0, S1, S2, S3, S4, S5, S6, S7⟩
    isplitl [S0 S1 S2 S3 S4 S5 S6 S7 Hg]
    · isplitl [S0 S1 S2 S3 S4 S5 S6 S7]
      · isplitl [S0]; · iexact S0
        isplitl [S1]; · iapply (held_of_kept m c sc1 4 0 t.val); iexact S1
        isplitl [S2]; · iapply (held_of_kept m c sc2 4 512 t.val); iexact S2
        isplitl [S3]; · iapply (held_of_kept m c sc3 4 1024 t.val); iexact S3
        isplitl [S4]; · iapply (held_of_kept m c sc4 4 1536 t.val); iexact S4
        isplitl [S5]; · iapply (held_of_kept m c sc5 4 2048 t.val); iexact S5
        isplitl [S6]; · iapply (held_of_kept m c sc6 2 2560 t.val); iexact S6
        iapply (held_of_kept m c sc7 2 2816 t.val); iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := Ideal) .tc cfg0.body (cfg0.bodyArgs t (cfg0.slots t)) = bodyAt0 t := by
  unfold defs₀; rw [Defs.onTc_tc]

/-- The obligation of the body, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch hands over what the first point is entered with. -/
theorem hin (c : Dev nD) : Pipeline.ΦA spec0 c ⊢ (dats m 0 c).Φ 0 := by
  rw [show (dats m 0 c).Φ 0 = between m c 0 from rfl, PhiA_eq]
  unfold between
  iintro ⟨⟨S0, S1, S2, S3, S4, S5, S6, S7⟩, Hg⟩
  isplitl [S0 S1 S2 S3 S4 S5 S6 S7]
  · isplitl [S0]; · iexact S0
    isplitl [S1]; · iapply (held_zero m c sc1 4 0); iexact S1
    isplitl [S2]; · iapply (held_zero m c sc2 4 512); iexact S2
    isplitl [S3]; · iapply (held_zero m c sc3 4 1024); iexact S3
    isplitl [S4]; · iapply (held_zero m c sc4 4 1536); iexact S4
    isplitl [S5]; · iapply (held_zero m c sc5 4 2048); iexact S5
    isplitl [S6]; · iapply (held_zero m c sc6 2 2560); iexact S6
    iapply (held_zero m c sc7 2 2816); iexact S7
  iexact Hg

/-- The last point leaves what the launch takes back. -/
theorem hout (c : Dev nD) : (dats m 0 c).Φ (Fin.last cfg0.N) ⊢ Pipeline.ΦA spec0 c := by
  rw [show (dats m 0 c).Φ (Fin.last cfg0.N) = between m c cfg0.N from rfl, PhiA_eq]
  unfold between
  iintro ⟨⟨S0, S1, S2, S3, S4, S5, S6, S7⟩, Hg⟩
  isplitl [S0 S1 S2 S3 S4 S5 S6 S7]
  · isplitl [S0]; · iexact S0
    isplitl [S1]; · iapply (some_of_held m c sc1 4 0 _); iexact S1
    isplitl [S2]; · iapply (some_of_held m c sc2 4 512 _); iexact S2
    isplitl [S3]; · iapply (some_of_held m c sc3 4 1024 _); iexact S3
    isplitl [S4]; · iapply (some_of_held m c sc4 4 1536 _); iexact S4
    isplitl [S5]; · iapply (some_of_held m c sc5 4 2048 _); iexact S5
    isplitl [S6]; · iapply (some_of_held m c sc6 2 2560 _); iexact S6
    iapply (some_of_held m c sc7 2 2816 _); iexact S7
  iexact Hg

/-! ## The run -/

/-- The blocks of the result, put together. -/
theorem final (c : Dev nD) : (dats m 0 c).arrAt 7 cfg0.N = fun i => outS m c (i 0).val (i 1).val (i 2).val := by
  refine (dats m 0 c).arrAt_eq_of_covers 7 (fun i => outS m c (i 0).val (i 1).val (i 2).val) (by decide +kernel) fun t hf y => ?_
  have hy0 : (y 0).val < 1 := (y 0).isLt
  blk_simp
  rw [after7]
  unfold tileS
  blk_simp [index7 t]
  congr 1 <;> omega

set_option backward.isDefEq.respectTransparency.types false in
/-- The launch: every execution ends with the input arrays unchanged, the result's blocks written, and every semaphore at zero. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: the result is the channel mixer's rows, the arguments are unchanged, and every semaphore ends at zero. -/
theorem run_value : θ_run defs (onTc (τ := τ) (main (F := Ideal))) ⟨m, fun _ => 0, ρ⟩ (fun r => (∀ c : Dev nD,
      r.2.mem ((c.tc : Thread nD τ).loc main_v0) = (fun i => outS m c (i 0).val (i 1).val (i 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.out_eq c 7).trans (final m c),
      (h.1.out_eq c 0).trans (((dats m 0 c).arrAt_in 0 rfl _).trans ((A_eq m c 0).trans (V_main_arg0 m c))),
      (h.1.out_eq c 1).trans (((dats m 0 c).arrAt_in 1 rfl _).trans ((A_eq m c 1).trans (V_main_arg1 m c))),
      (h.1.out_eq c 2).trans (((dats m 0 c).arrAt_in 2 rfl _).trans ((A_eq m c 2).trans (V_main_arg2 m c))),
      (h.1.out_eq c 3).trans (((dats m 0 c).arrAt_in 3 rfl _).trans ((A_eq m c 3).trans (V_main_arg3 m c))),
      (h.1.out_eq c 4).trans (((dats m 0 c).arrAt_in 4 rfl _).trans ((A_eq m c 4).trans (V_main_arg4 m c))),
      (h.1.out_eq c 5).trans (((dats m 0 c).arrAt_in 5 rfl _).trans ((A_eq m c 5).trans (V_main_arg5 m c))),
      (h.1.out_eq c 6).trans (((dats m 0 c).arrAt_in 6 rfl _).trans ((A_eq m c 6).trans (V_main_arg6 m c)))⟩, h.2⟩)
    (run_main m ρ)

end Cert.KernelIdeal.Channel

end
-- ==== Proof.Channel.Consts.lean ====
module

public import Idealize.ShloMosaic.PureOps.Ideal

/-! # The float constants the programs spell, as the numbers they denote -/

@[expose] public section

noncomputable section

namespace Cert.Consts

open Idealize.ShloMosaic

/-- The pattern of one half. -/
theorem half : Ideal.ofBits .f32 0x3F000000#32 = ((1 / 2 : ℝ) : EReal) := by
  simp [Ideal.ofBits, Ideal.ieee, -EReal.coe_mul]; norm_num

/-- The pattern of two. -/
theorem two : Ideal.ofBits .f32 0x40000000#32 = ((2 : ℝ) : EReal) := by
  simp [Ideal.ofBits, Ideal.ieee, -EReal.coe_mul]; norm_num

/-- The gelu's outer constant, near the root of 2/π. -/
theorem outer : Ideal.ofBits .f32 0x3F4C422A#32 = ((13386282 / 16777216 : ℝ) : EReal) := by
  simp [Ideal.ofBits, Ideal.ieee, -EReal.coe_mul]; norm_num

/-- The gelu's cubic constant, near 0.044715. -/
theorem cubic : Ideal.ofBits .f32 0x3D372713#32 = ((12003091 / 268435456 : ℝ) : EReal) := by
  simp [Ideal.ofBits, Ideal.ieee, -EReal.coe_mul]; norm_num

end Cert.Consts

end
-- ==== Proof.Channel.Gelu.lean ====
module

public import proofs.«01_k».proof.Proof.Channel.Tile
public import proofs.«01_k».proof.Proof.Channel.Consts

/-! # The gelu, written two ways

The reference writes the tanh argument with the cubic term inside the outer factor and multiplies by one half; the kernel
multiplies the outer factor out and leaves the half to the down-projection's weights. -/

@[expose] public section

noncomputable section

namespace Cert.KernelIdeal.Channel

open Idealize.ShloMosaic

/-- The reference's gelu of `a`, times `v`. -/
def gateR (a v : EReal) : EReal :=
  a * (Ideal.ofBits .f32 0x3F000000#32 * (1 + Ideal.tanh (Ideal.ofBits .f32 0x3F4C422A#32 * (a + Ideal.ofBits .f32 0x3D372713#32 * (a * a * a))))) * v

/-- The named constant is the product of the reference's two. -/
theorem kap_eq : kap = (((13386282 / 16777216) * (12003091 / 268435456) : ℝ) : EReal) := by
  unfold kap
  rw [IdealRules.named_const.ideal_named_scalar _ _ _ _ rfl]
  norm_num

/-- The cubic's two forms agree, also at the infinities. -/
theorem cubic_arg {c k : ℝ} (hc : 0 < c) (hk : 0 < k) (a : EReal) :
    (c : EReal) * (a + (k : EReal) * (a * a * a)) = a * ((c : EReal) + ((c * k : ℝ) : EReal) * (a * a)) := by
  have hck : 0 < c * k := mul_pos hc hk
  induction a with
  | bot =>
    rw [EReal.bot_mul_bot, EReal.top_mul_bot, EReal.coe_mul_bot_of_pos hk, EReal.bot_add, EReal.coe_mul_bot_of_pos hc,
      EReal.coe_mul_top_of_pos hck, EReal.coe_add_top, EReal.bot_mul_top]
  | top =>
    rw [EReal.top_mul_top, EReal.top_mul_top, EReal.coe_mul_top_of_pos hk, EReal.top_add_top, EReal.coe_mul_top_of_pos hc,
      EReal.coe_mul_top_of_pos hck, EReal.coe_add_top, EReal.top_mul_top]
  | coe a =>
    norm_cast
    ring

/-- The reference's gelu against doubled weights is the kernel's against the weights. -/
theorem gate_eq (a v d : EReal) : gateR a v * (Ideal.ofBits .f32 0x40000000#32 * d) = gateT a v * d := by
  unfold gateR gateT
  rw [kap_eq, Consts.half, Consts.two, Consts.outer, Consts.cubic, cubic_arg (by norm_num) (by norm_num)]
  generalize 1 + Ideal.tanh _ = t
  have h2 : (((1 / 2 : ℝ) : EReal)) * ((2 : ℝ) : EReal) = 1 := by norm_cast; norm_num
  calc a * (((1 / 2 : ℝ) : EReal) * t) * v * (((2 : ℝ) : EReal) * d)
      = (((1 / 2 : ℝ) : EReal) * ((2 : ℝ) : EReal)) * (a * v * t * d) := by ac_rfl
    _ = a * v * t * d := by rw [h2, one_mul]

end Cert.KernelIdeal.Channel
-- ==== Proof.Channel.Reference.lean ====
module

public import proofs.«01_k».proof.Proof.Gen.ReferenceIdeal.Run
public import proofs.«01_k».proof.Proof.Channel.Sequence
public import proofs.«01_k».proof.Proof.Channel.Gelu
public import Idealize.ShloMosaic.Lib.BitcastConvert

/-! # What the reference computes, row by row -/

@[expose] public section

set_option maxRecDepth 16384

noncomputable section

namespace Cert.ReferenceIdeal.Channel

open Idealize.ShloMosaic Cert.ReferenceIdeal Cert.ReferenceIdeal.Gen Cert.KernelIdeal.Channel

/-- A gain, spread over all rows. -/
theorem gain_spread (G : FVec Ideal S1x1024 .f32) (i : S4x8192x1024.Idx) :
    broadcastInDim S4x8192x1024 ![0, 1, 2] bcast_S1x1x1024_S4x8192x1024_0_1_2 (broadcastInDim S1x1x1024 ![2] bcast_S1024_S1x1x1024_2
      (shapeCast S1024 G shapeCasts_S1x1024_S1024)) i = at2 G 0 (i 2).val := by
  pointwise
  exact (at2_eq _ _ rfl rfl).symm

/-- A normalised row. -/
theorem norm_rows {x : ℕ → ℕ → ℕ → EReal} {X : FVec Ideal S4x8192x1024 .f32} (G : FVec Ideal S1x1024 .f32)
    (hX : ∀ i, X i = x (i 0).val (i 1).val (i 2).val) (i : S4x8192x1024.Idx) :
    mulf (mulf X (broadcastInDim S4x8192x1024 ![0, 1, 2] bcast_S4x8192x1_S4x8192x1024_0_1_2 (Host.rsqrt (addf (Host.divf
      (broadcastInDim S4x8192x1 ![0, 1] bcast_S4x8192_S4x8192x1_0_1 (Host.reduceAdd (mulf X X) (constant S_ .f32 0x00000000#32) reducesTo_S4x8192x1024_S4x8192_d2 h_S_))
      (broadcastInDim S4x8192x1 ![] bcast_S_S4x8192x1 (constant S_ .f32 0x44800000#32))) (broadcastInDim S4x8192x1 ![] bcast_S_S4x8192x1 (constant S_ .f32 0x358637BD#32))))))
      (broadcastInDim S4x8192x1024 ![0, 1, 2] bcast_S1x1x1024_S4x8192x1024_0_1_2 (broadcastInDim S1x1x1024 ![2] bcast_S1024_S1x1x1024_2
        (shapeCast S1024 G shapeCasts_S1x1024_S1024))) i
      = nrmT (x (i 0).val) (at2 G 0) (i 1).val (i 2).val := by
  have hG := gain_spread G i
  generalize broadcastInDim S4x8192x1024 ![0, 1, 2] bcast_S1x1x1024_S4x8192x1024_0_1_2 (broadcastInDim S1x1x1024 ![2] bcast_S1024_S1x1x1024_2
        (shapeCast S1024 G shapeCasts_S1x1024_S1024)) = Q at hG ⊢
  pointwise
  rw [hG, hX]
  unfold nrmT
  rw [sum_fin_range (fun k => X (ix3 (i 0) (i 1) k) * X (ix3 (i 0) (i 1) k)) (fun c => x (i 0).val (i 1).val c * x (i 0).val (i 1).val c) fun k => by rw [hX]; rfl]

/-- The packed up-projection, unpacked. -/
theorem up_weights (Z : IVec S512x6144 32) (i : S1024x6144.Idx) :
    extf .f32 (shapeCast S1024x6144 (transpose S512x2x6144 [0, 2, 1] (bitcastToFloat (F := Ideal) .bf16 (Host.bitcastConvertNarrow S512x6144x2 16 Z
      splits_S512x6144_w32_S512x6144x2_w16)) transposes_S512x6144x2_S512x2x6144_0_2_1) shapeCasts_S512x2x6144_S1024x6144) bitsLt_bf16_f32 i
      = wtT Z (i 0).val (i 1).val := by
  pointwise
  unfold wtT
  rw [Nat.mul_comm]
  exact congrArg (fun z : BitVec 32 => Ideal.ofBits .bf16 (z.extractLsb' _ 16)) (atW_eq _ _ rfl rfl).symm

/-- The packed down-projection, unpacked. -/
theorem down_weights (Z : IVec S1536x1024 32) (i : S3072x1024.Idx) :
    extf .f32 (shapeCast S3072x1024 (transpose S1536x2x1024 [0, 2, 1] (bitcastToFloat (F := Ideal) .bf16 (Host.bitcastConvertNarrow S1536x1024x2 16 Z
      splits_S1536x1024_w32_S1536x1024x2_w16)) transposes_S1536x1024x2_S1536x2x1024_0_2_1) shapeCasts_S1536x2x1024_S3072x1024) bitsLt_bf16_f32 i
      = wtT Z (i 0).val (i 1).val := by
  pointwise
  unfold wtT
  rw [Nat.mul_comm]
  exact congrArg (fun z : BitVec 32 => Ideal.ofBits .bf16 (z.extractLsb' _ 16)) (atW_eq _ _ rfl rfl).symm

/-- The up-projection of the normalised rows. -/
theorem up_rows {x : ℕ → ℕ → ℕ → EReal} {g : ℕ → EReal} {w : ℕ → ℕ → EReal} {N : FVec Ideal S4x8192x1024 .f32} {W : FVec Ideal S1024x6144 .f32}
    (hN : ∀ i, N i = nrmT (x (i 0).val) g (i 1).val (i 2).val) (hW : ∀ i, W i = w (i 0).val (i 1).val) (i : S4x8192x6144.Idx) :
    Host.dotGeneral dot_S4x8192x1024_S1024x6144_S4x8192x6144_2_0_01_1_n_n none N W i = upT (x (i 0).val) g w (i 1).val (i 2).val := by
  pointwise
  unfold upT
  exact sum_fin_range _ _ fun k => by rw [hN, hW]; rfl

/-- The rows shifted by `k` places, zeros coming in. -/
theorem pad_rows {u : ℕ → ℕ → ℕ → EReal} {U : FVec Ideal S4x8192x6144 .f32} {k o : ℕ} {h : S4x8194x6144.Slices ![0, o, 0] S4x8192x6144}
    (ho : o + k = 2) (hU : ∀ i, U i = u (i 0).val (i 1).val (i 2).val) (i : S4x8192x6144.Idx) :
    extractStridedSlice S4x8192x6144 ![0, o, 0] (pad S4x8194x6144 ![0, 2, 0] ![0, 0, 0] ![0, 0, 0] U (sitofp (F := Ideal) .f32 (constantI S_ 32 0#32))
      pads_S4x8192x6144_S4x8194x6144_000_200_000 h_S_) h i = back (u (i 0).val) k (i 1).val (i 2).val := by
  pointwise
  have hi : (i 1).val < 8192 := (i 1).isLt
  unfold back
  by_cases hk : k ≤ (i 1).val
  · rw [dif_pos ⟨by omega, by omega⟩, if_pos hk, hU]
    exact congrArg (fun r => u (i 0).val r (i 2).val) (show o + (i 1).val - 2 = (i 1).val - k by omega)
  · rw [dif_neg (by omega), if_neg hk]
    show (((0#32 : BitVec 32).toInt : ℝ) : EReal) = 0
    simp

/-- One row of taps, spread over all rows. -/
theorem tap_spread {t : ℕ} (W : FVec Ideal S3x6144 .f32) {h : S3x6144.Slices ![t, 0] S1x6144} (i : S4x8192x6144.Idx) :
    broadcastInDim S4x8192x6144 ![0, 1, 2] bcast_S1x1x6144_S4x8192x6144_0_1_2 (broadcastInDim S1x1x6144 ![2] bcast_S6144_S1x1x6144_2
      (shapeCast S6144 (extractStridedSlice S1x6144 ![t, 0] W h) shapeCasts_S1x6144_S6144)) i = at2 W t (i 2).val := by
  pointwise
  exact (at2_eq _ _ rfl rfl).symm

/-- The bias, spread over all rows. -/
theorem bias_spread (B : FVec Ideal S1x6144 .f32) (i : S4x8192x6144.Idx) :
    broadcastInDim S4x8192x6144 ![0, 1, 2] bcast_S1x1x6144_S4x8192x6144_0_1_2 (broadcastInDim S1x1x6144 ![2] bcast_S6144_S1x1x6144_2
      (shapeCast S6144 B shapeCasts_S1x6144_S6144)) i = at2 B 0 (i 2).val := by
  pointwise
  exact (at2_eq _ _ rfl rfl).symm

/-- The convolution. -/
theorem conv_rows {u : ℕ → ℕ → ℕ → EReal} {w : ℕ → ℕ → EReal} {b : ℕ → EReal} {t0 p2 t1 p1 t2 p0 bs : FVec Ideal S4x8192x6144 .f32}
    (ht0 : ∀ i, t0 i = w 0 (i 2).val) (ht1 : ∀ i, t1 i = w 1 (i 2).val) (ht2 : ∀ i, t2 i = w 2 (i 2).val) (hb : ∀ i, bs i = b (i 2).val)
    (hp2 : ∀ i, p2 i = back (u (i 0).val) 2 (i 1).val (i 2).val) (hp1 : ∀ i, p1 i = back (u (i 0).val) 1 (i 1).val (i 2).val)
    (hp0 : ∀ i, p0 i = back (u (i 0).val) 0 (i 1).val (i 2).val) (i : S4x8192x6144.Idx) :
    addf (addf (addf (mulf t0 p2) (mulf t1 p1)) (mulf t2 p0)) bs i = convS (u (i 0).val) w b (i 1).val (i 2).val := by
  show t0 i * p2 i + t1 i * p1 i + t2 i * p0 i + bs i = _
  rw [ht0, ht1, ht2, hb, hp0, hp1, hp2]
  unfold convS
  ac_rfl

/-- The gelu of the first half of the columns, times the second half. -/
theorem gate_rows {z : ℕ → ℕ → ℕ → EReal} {A : FVec Ideal S4x8192x6144 .f32} (hA : ∀ i, A i = z (i 0).val (i 1).val (i 2).val) (i : S4x8192x3072.Idx) :
    mulf (mulf (extractStridedSlice S4x8192x3072 ![0, 0, 0] A slices_S4x8192x6144_S4x8192x3072_0_0_0)
      (mulf (broadcastInDim S4x8192x3072 ![] bcast_S_S4x8192x3072 (constant S_ .f32 0x3F000000#32)) (addf (broadcastInDim S4x8192x3072 ![] bcast_S_S4x8192x3072 (constant S_ .f32 0x3F800000#32))
        (Host.tanh (mulf (broadcastInDim S4x8192x3072 ![] bcast_S_S4x8192x3072 (constant S_ .f32 0x3F4C422A#32)) (addf (extractStridedSlice S4x8192x3072 ![0, 0, 0] A slices_S4x8192x6144_S4x8192x3072_0_0_0)
          (mulf (broadcastInDim S4x8192x3072 ![] bcast_S_S4x8192x3072 (constant S_ .f32 0x3D372713#32)) (mulf (mulf (extractStridedSlice S4x8192x3072 ![0, 0, 0] A slices_S4x8192x6144_S4x8192x3072_0_0_0)
            (extractStridedSlice S4x8192x3072 ![0, 0, 0] A slices_S4x8192x6144_S4x8192x3072_0_0_0)) (extractStridedSlice S4x8192x3072 ![0, 0, 0] A slices_S4x8192x6144_S4x8192x3072_0_0_0)))))))))
      (extractStridedSlice S4x8192x3072 ![0, 0, 3072] A slices_S4x8192x6144_S4x8192x3072_0_0_3072) i
      = gateR (z (i 0).val (i 1).val (i 2).val) (z (i 0).val (i 1).val (3072 + (i 2).val)) := by
  have h0 : ∀ j, extractStridedSlice S4x8192x3072 ![0, 0, 0] A slices_S4x8192x6144_S4x8192x3072_0_0_0 j = z (j 0).val (j 1).val (j 2).val := by
    intro j
    pointwise
    exact hA _
  have h1 : ∀ j, extractStridedSlice S4x8192x3072 ![0, 0, 3072] A slices_S4x8192x6144_S4x8192x3072_0_0_3072 j = z (j 0).val (j 1).val (3072 + (j 2).val) := by
    intro j
    pointwise
    exact hA _
  generalize extractStridedSlice S4x8192x3072 ![0, 0, 0] A slices_S4x8192x6144_S4x8192x3072_0_0_0 = P at h0 ⊢
  generalize extractStridedSlice S4x8192x3072 ![0, 0, 3072] A slices_S4x8192x6144_S4x8192x3072_0_0_3072 = Q at h1 ⊢
  pointwise
  rw [h0, h1]
  rfl

/-- The down-projection against the doubled weights, and the residual. -/
theorem mix_rows {x a v : ℕ → ℕ → ℕ → EReal} {D : ℕ → ℕ → EReal} {X : FVec Ideal S4x8192x1024 .f32} {G : FVec Ideal S4x8192x3072 .f32} {W : FVec Ideal S3072x1024 .f32}
    (hX : ∀ i, X i = x (i 0).val (i 1).val (i 2).val) (hG : ∀ i, G i = gateR (a (i 0).val (i 1).val (i 2).val) (v (i 0).val (i 1).val (i 2).val))
    (hW : ∀ i, W i = D (i 0).val (i 1).val) (i : S4x8192x1024.Idx) :
    addf X (Host.dotGeneral dot_S4x8192x3072_S3072x1024_S4x8192x1024_2_0_01_1_n_n none G
      (mulf (broadcastInDim S3072x1024 ![] bcast_S_S3072x1024 (constant S_ .f32 0x40000000#32)) W)) i
      = x (i 0).val (i 1).val (i 2).val + downT (fun r d => gateT (a (i 0).val r d) (v (i 0).val r d)) D 3072 (i 1).val (i 2).val := by
  pointwise
  rw [hX]
  unfold downT
  congr 1
  refine sum_fin_range _ _ fun k => ?_
  rw [hG, hW]
  exact gate_eq _ _ _

set_option maxHeartbeats 1000000 in
/-- The reference's result: the channel mixer's row of the sequence, normalised. -/
theorem result (m : (ℓ : Loc nD τ sig) → Buf (Elt Ideal) ℓ) (c : Dev nD) (i : S4x8192x1024.Idx) :
    Value.res_out0 (F := Ideal) m c i
      = nrmT (mixS (rowsX (m ((c.tc : Thread nD τ).loc main_arg0)) (i 0).val) (at2 (m ((c.tc : Thread nD τ).loc main_arg1)) 0) (wtT (m ((c.tc : Thread nD τ).loc main_arg2)))
          (at2 (m ((c.tc : Thread nD τ).loc main_arg3))) (at2 (m ((c.tc : Thread nD τ).loc main_arg4)) 0) (wtT (m ((c.tc : Thread nD τ).loc main_arg5))))
        (at2 (m ((c.tc : Thread nD τ).loc main_arg6)) 0) (i 1).val (i 2).val := by
  have hX : ∀ i : S4x8192x1024.Idx, m ((c.tc : Thread nD τ).loc main_arg0) i = rowsX (m ((c.tc : Thread nD τ).loc main_arg0)) (i 0).val (i 1).val (i 2).val :=
    fun i => (rowsX_eq _ i rfl rfl rfl).symm
  have hU := up_rows (norm_rows (m ((c.tc : Thread nD τ).loc main_arg1)) hX) (up_weights (m ((c.tc : Thread nD τ).loc main_arg2)))
  let u : ℕ → ℕ → ℕ → EReal := fun b => upT (rowsX (m ((c.tc : Thread nD τ).loc main_arg0)) b) (at2 (m ((c.tc : Thread nD τ).loc main_arg1)) 0) (wtT (m ((c.tc : Thread nD τ).loc main_arg2)))
  have hC := conv_rows (u := u) (w := at2 (m ((c.tc : Thread nD τ).loc main_arg3))) (tap_spread (t := 0) (h := slices_S3x6144_S1x6144_0_0) (m ((c.tc : Thread nD τ).loc main_arg3))) (tap_spread (t := 1) (h := slices_S3x6144_S1x6144_1_0) (m ((c.tc : Thread nD τ).loc main_arg3)))
    (tap_spread (t := 2) (h := slices_S3x6144_S1x6144_2_0) (m ((c.tc : Thread nD τ).loc main_arg3))) (bias_spread (m ((c.tc : Thread nD τ).loc main_arg4)))
    (pad_rows (u := u) (k := 2) (h := slices_S4x8194x6144_S4x8192x6144_0_0_0) rfl hU) (pad_rows (u := u) (k := 1) (h := slices_S4x8194x6144_S4x8192x6144_0_1_0) rfl hU) (pad_rows (u := u) (k := 0) (h := slices_S4x8194x6144_S4x8192x6144_0_2_0) rfl hU)
  exact norm_rows (x := fun b => mixS (rowsX (m ((c.tc : Thread nD τ).loc main_arg0)) b) (at2 (m ((c.tc : Thread nD τ).loc main_arg1)) 0) (wtT (m ((c.tc : Thread nD τ).loc main_arg2))) (at2 (m ((c.tc : Thread nD τ).loc main_arg3))) (at2 (m ((c.tc : Thread nD τ).loc main_arg4)) 0) (wtT (m ((c.tc : Thread nD τ).loc main_arg5)))) (m ((c.tc : Thread nD τ).loc main_arg6))
    (mix_rows (x := rowsX (m ((c.tc : Thread nD τ).loc main_arg0))) (a := fun b r d => convS (u b) (at2 (m ((c.tc : Thread nD τ).loc main_arg3))) (at2 (m ((c.tc : Thread nD τ).loc main_arg4)) 0) r d) (v := fun b r d => convS (u b) (at2 (m ((c.tc : Thread nD τ).loc main_arg3))) (at2 (m ((c.tc : Thread nD τ).loc main_arg4)) 0) r (3072 + d)) (D := wtT (m ((c.tc : Thread nD τ).loc main_arg5))) hX (gate_rows (z := fun b => convS (u b) (at2 (m ((c.tc : Thread nD τ).loc main_arg3))) (at2 (m ((c.tc : Thread nD τ).loc main_arg4)) 0)) hC) (down_weights (m ((c.tc : Thread nD τ).loc main_arg5)))) i

end Cert.ReferenceIdeal.Channel
-- ==== Proof.Channel.Words.lean ====
module

public import Idealize.ShloMosaic.Lib.Pointwise
public import Idealize.ShloMosaic.Lib.BitcastPair
public import Idealize.ShloMosaic.Lib.BitcastConvert
public import Idealize.ShloMosaic.Lib.Pipeline.Value

/-! # Two rows of halves in a row of words

A matrix of 16-bit values packed two rows to a row of 32-bit words, the even row in the low halves: what the packing's one
operation leaves, and what a pair of values read as one word is. -/

@[expose] public section

noncomputable section

namespace Cert.Words

open Idealize.ShloMosaic

/-- A matrix of halves as a function of two naturals. -/
def atH {m n : ℕ} (x : (⟨2, ![m, n]⟩ : Shape).Idx → BitVec 16) (r c : ℕ) : BitVec 16 :=
  if h : r < m ∧ c < n then x (ix2 ⟨r, h.1⟩ ⟨c, h.2⟩) else 0

theorem atH_eq {m n : ℕ} (x : (⟨2, ![m, n]⟩ : Shape).Idx → BitVec 16) (i : (⟨2, ![m, n]⟩ : Shape).Idx) {r c : ℕ}
    (hr : r = (i 0).val) (hc : c = (i 1).val) : atH x r c = x i := by
  subst hr hc
  unfold atH
  rw [dif_pos ⟨(i 0).isLt, (i 1).isLt⟩]
  congr 1
  exact (eq_ix2 i).symm

/-- The word of rows `2r` and `2r + 1`. -/
def wordH {m n : ℕ} (x : (⟨2, ![m, n]⟩ : Shape).Idx → BitVec 16) (r c : ℕ) : BitVec 32 := atH x (2 * r + 1) c ++ atH x (2 * r) c

/-- All the words of a matrix of halves. -/
def words {m n : ℕ} (m' : ℕ) (x : (⟨2, ![m, n]⟩ : Shape).Idx → BitVec 16) : IVec ⟨2, ![m', n]⟩ 32 := fun i => wordH x (i 0).val (i 1).val

/-- An array rounded to halves, as bits. -/
def rounded {F : FTy → Type} [BitOps F] {s : Shape} (X : FVec F s .f32) : IVec s 16 := bitcastToInt (truncf .bf16 X (by decide))

/-- Rows of halves read as rows of words. -/
theorem pack_apply {m m' n : ℕ} (x : (⟨2, ![m, n]⟩ : Shape).Idx → BitVec 16) (h : (⟨2, ![m, n]⟩ : Shape).Bitcasts 16 ⟨2, ![m', n]⟩ 32)
    (j : (⟨2, ![m', n]⟩ : Shape).Idx) : bitcast ⟨2, ![m', n]⟩ 32 x h j = wordH x (j 0).val (j 1).val := by
  rw [bitcast_16_32]
  have e : ∀ p hp, x (h.srcIdx j p hp) = atH x p (j 1).val := fun p hp => (atH_eq x _ rfl rfl).symm
  rw [e, e]
  rfl

/-- The whole of it. -/
theorem pack_whole {m m' n : ℕ} (x : (⟨2, ![m, n]⟩ : Shape).Idx → BitVec 16) (h : (⟨2, ![m, n]⟩ : Shape).Bitcasts 16 ⟨2, ![m', n]⟩ 32) :
    bitcast ⟨2, ![m', n]⟩ 32 x h = words m' x := funext fun j => pack_apply x h j

/-- A block of rows packs to a block of rows of words. -/
theorem word_block {m m' n : ℕ} {x : (⟨2, ![m, n]⟩ : Shape).Idx → BitVec 16} {X : (⟨2, ![m', n]⟩ : Shape).Idx → BitVec 16} {o r c : ℕ}
    (hx : ∀ i : (⟨2, ![m, n]⟩ : Shape).Idx, x i = atH X (2 * o + (i 0).val) (i 1).val) (hr : 2 * r + 1 < m) (hc : c < n) :
    wordH x r c = wordH X (o + r) c := by
  have e : ∀ q, q < m → atH x q c = atH X (2 * o + q) c := fun q hq =>
    (atH_eq x (ix2 ⟨q, hq⟩ ⟨c, hc⟩) rfl rfl).trans (hx _)
  unfold wordH
  rw [e _ hr, e _ (by omega), show 2 * (o + r) + 1 = 2 * o + (2 * r + 1) by omega, show 2 * (o + r) = 2 * o + 2 * r by omega]

/-- Pairs of halves read as words, when part `p` of pair `r` is row `2r + p`. -/
theorem pairs_apply {m m' n : ℕ} {x : (⟨2, ![m, n]⟩ : Shape).Idx → BitVec 16} {z : (⟨3, ![m', n, 2]⟩ : Shape).Idx → BitVec 16}
    (h : (⟨2, ![m', n]⟩ : Shape).SplitsWords 32 ⟨3, ![m', n, 2]⟩ 16)
    (hz : ∀ i : (⟨3, ![m', n, 2]⟩ : Shape).Idx, z i = atH x (2 * (i 0).val + (i 2).val) (i 1).val) (j : (⟨2, ![m', n]⟩ : Shape).Idx) :
    Host.bitcastConvertWiden ⟨2, ![m', n]⟩ 32 z h j = wordH x (j 0).val (j 1).val := by
  rw [Host.bitcastConvertWiden_apply_16_32, hz, hz]
  rfl

/-- Rows paired by a reshape, the pair brought last by a transpose, and each pair read as one word. -/
theorem pairs_words {F : FTy → Type} [BitOps F] {m m' n : ℕ} (Y : FVec F ⟨2, ![m, n]⟩ .bf16)
    (h1 : (⟨2, ![m, n]⟩ : Shape).ShapeCasts ⟨3, ![m', 2, n]⟩) (h2 : (⟨3, ![m', 2, n]⟩ : Shape).Transposes [0, 2, 1] ⟨3, ![m', n, 2]⟩)
    (h3 : (⟨2, ![m', n]⟩ : Shape).SplitsWords 32 ⟨3, ![m', n, 2]⟩ 16) (hm : m = 2 * m') :
    Host.bitcastConvertWiden ⟨2, ![m', n]⟩ 32 (bitcastToInt (transpose ⟨3, ![m', n, 2]⟩ [0, 2, 1] (shapeCast ⟨3, ![m', 2, n]⟩ Y h1) h2)) h3
      = words m' (bitcastToInt Y) := by
  funext j
  refine pairs_apply (x := bitcastToInt Y) h3 (fun i => ?_) j
  have b0 : (i 0).val < m' := (i 0).isLt
  have b1 : (i 1).val < n := (i 1).isLt
  have b2 : (i 2).val < 2 := (i 2).isLt
  refine (congrArg BitOps.toBits ((transpose_apply [0, 2, 1] _ h2 i (ix3 ⟨(i 0).val, b0⟩ ⟨(i 2).val, b2⟩ ⟨(i 1).val, b1⟩) fun b => ?_).trans
    (shapeCast_apply Y h1 _ (ix2 ⟨2 * (i 0).val + (i 2).val, by omega⟩ ⟨(i 1).val, b1⟩) ?_))).trans
    (atH_eq (bitcastToInt Y) (ix2 ⟨2 * (i 0).val + (i 2).val, by omega⟩ ⟨(i 1).val, b1⟩) rfl rfl).symm
  · match b with
    | ⟨0, _⟩ => rfl
    | ⟨1, _⟩ => rfl
    | ⟨2, _⟩ => rfl
  · rw [Shape.rowMajor_val_two, Shape.rowMajor_val_three]
    show (2 * (i 0).val + (i 2).val) * n + (i 1).val = ((i 0).val * 2 + (i 2).val) * n + (i 1).val
    rw [Nat.mul_comm 2]

end Cert.Words

end
-- ==== Proof.Channel.PackUp.lean ====
module

public import proofs.«01_k».proof.Proof.Channel.Words
public import proofs.«01_k».proof.Proof.Gen.PackUp.Value
public import proofs.«01_k».proof.Proof.Gen.WordsUp.Run
public import proofs.«01_k».proof.Proof.Gen.WordsUp.Read
public import Idealize.ShloMosaic.Lib.Pipeline.ValueKit

/-! # The packing of the up-projection

The launch writes four blocks of 128 rows of words, each of 256 rows of the weight; together they are the words of the whole
weight, which is also what the reference computes of it. -/

@[expose] public section

set_option maxRecDepth 16384

noncomputable section

namespace Cert.PackUp.Channel

open Idealize.ShloMosaic Idealize.ShloMosaic.TcCoe Idealize.SL.Sem
open Cert.PackUp Cert.PackUp.Gen Cert.PackUp.Value Cert.Words

variable {F : FTy → Type} [BitOps F]

variable (m : (ℓ : Loc nD τ sig) → Buf (Elt F) ℓ) (ρ : Dev nD → PrngReg)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

/-- The blocks put together. -/
theorem final (c : Dev nD) : (dats m 0 c).arrAt 1 cfg0.N = words 512 (rounded (F := F) (s := S1024x6144) (m ((c : Thread nD τ).loc main_arg0))) := by
  refine (dats m 0 c).arrAt_eq_of_covers 1 (words 512 (rounded (F := F) (s := S1024x6144) (m ((c : Thread nD τ).loc main_arg0)))) (by decide +kernel) fun t hf y => ?_
  blk_simp
  rw [after0_1]
  unfold out0_1
  frame_out
  unfold k0_pay1 words
  rw [pack_apply]
  blk_simp [index1 t]
  have h0 : (y 0).val < 128 := (y 0).isLt
  refine (word_block (X := rounded (F := F) (s := S1024x6144) (m ((c : Thread nD τ).loc main_arg0))) (o := 128 * t.val) (r := (y 0).val) (fun i => ?_) (by omega) (y 1).isLt).trans ?_
  · refine (atH_eq (rounded (F := F) (s := S1024x6144) (m ((c : Thread nD τ).loc main_arg0))) ((win0_0.blk t).view.emb i) ?_ ?_).symm
    · blk_simp [index0 t]; omega
    · blk_simp [index0 t]
  · congr 1 <;> omega

/-- The run: the result is the weight's words, the argument is unchanged. -/
theorem run : θ_run defs (onTc (τ := τ) (main (F := F))) ⟨m, fun _ => 0, ρ⟩ fun r => ∀ c : Dev nD,
      r.2.mem ((c.tc : Thread nD τ).loc main_v0) = words 512 (rounded (F := F) (s := S1024x6144) (m ((c.tc : Thread nD τ).loc main_arg0)))
      ∧ r.2.mem ((c.tc : Thread nD τ).loc main_arg0) = m ((c.tc : Thread nD τ).loc main_arg0) :=
  (θ_run defs _ _).mono (fun _ h c => ⟨(h c).1.trans (final m c), (h c).2⟩) (run_blocks m ρ)

end Cert.PackUp.Channel

namespace Cert.WordsUp.Channel

open Idealize.ShloMosaic Cert.WordsUp Cert.WordsUp.Read Cert.Words

/-- The reference's words of a weight. -/
theorem result {F : FTy → Type} [BitOps F] (X : FVec F S1024x6144 .f32) : val_main_v3 (F := F) X = words 512 (rounded X) :=
  pairs_words _ _ _ _ rfl

end Cert.WordsUp.Channel

end
-- ==== Proof.Channel.PackDown.lean ====
module

public import proofs.«01_k».proof.Proof.Channel.Words
public import proofs.«01_k».proof.Proof.Gen.PackDown.Value
public import proofs.«01_k».proof.Proof.Gen.WordsDown.Run
public import proofs.«01_k».proof.Proof.Gen.WordsDown.Read
public import Idealize.ShloMosaic.Lib.Pipeline.ValueKit

/-! # The packing of the down-projection

The weight is halved before it is rounded. The launch writes two blocks of 768 rows of words, each of 1536 rows of the weight. -/

@[expose] public section

set_option maxRecDepth 16384

noncomputable section

namespace Cert.PackDown.Channel

open Idealize.ShloMosaic Idealize.ShloMosaic.TcCoe Idealize.SL.Sem
open Cert.PackDown Cert.PackDown.Gen Cert.PackDown.Value Cert.Words

variable {F : FTy → Type} [BitOps F]

/-- The halved weight, rounded. -/
def halves (X : FVec F S3072x1024 .f32) : IVec S3072x1024 16 :=
  bitcastToInt (truncf .bf16 (mulf X (broadcast S3072x1024 (Scalar.ofBits .f32 0x3F000000#32))) (by decide))

variable (m : (ℓ : Loc nD τ sig) → Buf (Elt F) ℓ) (ρ : Dev nD → PrngReg)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

/-- The blocks put together. -/
theorem final (c : Dev nD) : (dats m 0 c).arrAt 1 cfg0.N = words 1536 (halves (m ((c : Thread nD τ).loc main_arg0))) := by
  refine (dats m 0 c).arrAt_eq_of_covers 1 (words 1536 (halves (m ((c : Thread nD τ).loc main_arg0)))) (by decide +kernel) fun t hf y => ?_
  blk_simp
  rw [after0_1]
  unfold out0_1
  frame_out
  unfold k0_pay1 words
  rw [pack_apply]
  blk_simp [index1 t]
  have h0 : (y 0).val < 768 := (y 0).isLt
  refine (word_block (X := halves (m ((c : Thread nD τ).loc main_arg0))) (o := 768 * t.val) (r := (y 0).val) (fun i => ?_) (by omega)
    (y 1).isLt).trans ?_
  · refine (atH_eq (halves (m ((c : Thread nD τ).loc main_arg0))) ((win0_0.blk t).view.emb i) ?_ ?_).symm
    · blk_simp [index0 t]; omega
    · blk_simp [index0 t]
  · congr 1 <;> omega

/-- The run: the result is the weight's words, the argument is unchanged. -/
theorem run : θ_run defs (onTc (τ := τ) (main (F := F))) ⟨m, fun _ => 0, ρ⟩ fun r => ∀ c : Dev nD,
      r.2.mem ((c.tc : Thread nD τ).loc main_v0) = words 1536 (halves (m ((c.tc : Thread nD τ).loc main_arg0)))
      ∧ r.2.mem ((c.tc : Thread nD τ).loc main_arg0) = m ((c.tc : Thread nD τ).loc main_arg0) :=
  (θ_run defs _ _).mono (fun _ h c => ⟨(h c).1.trans (final m c), (h c).2⟩) (run_blocks m ρ)

end Cert.PackDown.Channel

namespace Cert.WordsDown.Channel

open Idealize.ShloMosaic Cert.WordsDown Cert.WordsDown.Read Cert.Words Cert.PackDown.Channel

/-- The reference's words of a weight. -/
theorem result {F : FTy → Type} [BitOps F] (X : FVec F S3072x1024 .f32) : val_main_v5 (F := F) X = words 1536 (halves X) :=
  pairs_words _ _ _ _ rfl

end Cert.WordsDown.Channel

end
-- ==== Proof.Channel.PackMixer.lean ====
module

public import proofs.«01_k».proof.Proof.Channel.Words
public import proofs.«01_k».proof.Proof.Gen.PackIn.Value
public import proofs.«01_k».proof.Proof.Gen.WordsIn.Run
public import proofs.«01_k».proof.Proof.Gen.WordsIn.Read
public import proofs.«01_k».proof.Proof.Gen.PackOut.Value
public import proofs.«01_k».proof.Proof.Gen.WordsOut.Run
public import proofs.«01_k».proof.Proof.Gen.WordsOut.Read
public import proofs.«01_k».proof.Proof.Gen.PackGates.Value
public import proofs.«01_k».proof.Proof.Gen.WordsGates.Run
public import proofs.«01_k».proof.Proof.Gen.WordsGates.Read
public import Idealize.ShloMosaic.Lib.Pipeline.ValueKit

/-! # The packing of the token mixer's weights

The input projection is packed in two blocks of 512 rows, the output projection and the gates in one each. -/

@[expose] public section

set_option maxRecDepth 16384

noncomputable section

namespace Cert.PackIn.Channel

open Idealize.ShloMosaic Idealize.ShloMosaic.TcCoe Idealize.SL.Sem
open Cert.PackIn Cert.PackIn.Gen Cert.PackIn.Value Cert.Words

variable {F : FTy → Type} [BitOps F]

variable (m : (ℓ : Loc nD τ sig) → Buf (Elt F) ℓ) (ρ : Dev nD → PrngReg)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

/-- The blocks put together. -/
theorem final (c : Dev nD) : (dats m 0 c).arrAt 1 cfg0.N = words 512 (rounded (F := F) (s := S1024x3072) (m ((c : Thread nD τ).loc main_arg0))) := by
  refine (dats m 0 c).arrAt_eq_of_covers 1 (words 512 (rounded (F := F) (s := S1024x3072) (m ((c : Thread nD τ).loc main_arg0)))) (by decide +kernel) fun t hf y => ?_
  blk_simp
  rw [after0_1]
  unfold out0_1
  frame_out
  unfold k0_pay1 words
  rw [pack_apply]
  blk_simp [index1 t]
  have h0 : (y 0).val < 256 := (y 0).isLt
  refine (word_block (X := rounded (F := F) (s := S1024x3072) (m ((c : Thread nD τ).loc main_arg0))) (o := 256 * t.val) (r := (y 0).val) (fun i => ?_) (by omega) (y 1).isLt).trans ?_
  · refine (atH_eq (rounded (F := F) (s := S1024x3072) (m ((c : Thread nD τ).loc main_arg0))) ((win0_0.blk t).view.emb i) ?_ ?_).symm
    · blk_simp [index0 t]; omega
    · blk_simp [index0 t]
  · congr 1 <;> omega

/-- The run: the result is the weight's words, the argument is unchanged. -/
theorem run : θ_run defs (onTc (τ := τ) (main (F := F))) ⟨m, fun _ => 0, ρ⟩ fun r => ∀ c : Dev nD,
      r.2.mem ((c.tc : Thread nD τ).loc main_v0) = words 512 (rounded (F := F) (s := S1024x3072) (m ((c.tc : Thread nD τ).loc main_arg0)))
      ∧ r.2.mem ((c.tc : Thread nD τ).loc main_arg0) = m ((c.tc : Thread nD τ).loc main_arg0) :=
  (θ_run defs _ _).mono (fun _ h c => ⟨(h c).1.trans (final m c), (h c).2⟩) (run_blocks m ρ)

end Cert.PackIn.Channel

namespace Cert.PackOut.Channel

open Idealize.ShloMosaic Idealize.ShloMosaic.TcCoe Idealize.SL.Sem
open Cert.PackOut Cert.PackOut.Gen Cert.Words

/-- What the block's store writes. -/
theorem stored {F : FTy → Type} [BitOps F] (X : FVec F S1024x1024 .f32) : k0_pay1 X = words 512 (rounded X) := by
  unfold k0_pay1
  exact pack_whole (rounded X) _

/-- The run of the output projection's packing: the one block is the whole array. -/
theorem run {F : FTy → Type} [BitOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = words 512 (rounded (F := F) (s := S1024x1024) (m ((c.tc : Thread nD τ).loc main_arg0)))
      ∧ r.2.mem ((c.tc : Thread nD τ).loc main_arg0) = m ((c.tc : Thread nD τ).loc main_arg0) :=
  (θ_run defs _ _).mono (fun _ h c => ⟨(h c).1.trans (stored _), (h c).2⟩) (Cert.PackOut.Value.run m ρ)

end Cert.PackOut.Channel

namespace Cert.PackGates.Channel

open Idealize.ShloMosaic Idealize.ShloMosaic.TcCoe Idealize.SL.Sem
open Cert.PackGates Cert.PackGates.Gen Cert.Words

/-- What the block's store writes. -/
theorem stored {F : FTy → Type} [BitOps F] (X : FVec F S512x512 .f32) : k0_pay1 X = words 256 (rounded X) := by
  unfold k0_pay1
  exact pack_whole (rounded X) _

/-- The run of the gates' packing: the one block is the whole array. -/
theorem run {F : FTy → Type} [BitOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = words 256 (rounded (F := F) (s := S512x512) (m ((c.tc : Thread nD τ).loc main_arg0)))
      ∧ r.2.mem ((c.tc : Thread nD τ).loc main_arg0) = m ((c.tc : Thread nD τ).loc main_arg0) :=
  (θ_run defs _ _).mono (fun _ h c => ⟨(h c).1.trans (stored _), (h c).2⟩) (Cert.PackGates.Value.run m ρ)

end Cert.PackGates.Channel

open Idealize.ShloMosaic Cert.Words

/-- Its reference's words. -/
theorem Cert.WordsIn.Channel.result {F : FTy → Type} [BitOps F] (X : FVec F Cert.WordsIn.S1024x3072 .f32) :
    Cert.WordsIn.Read.val_main_v3 (F := F) X = words 512 (rounded X) :=
  pairs_words _ _ _ _ rfl

/-- Its reference's words. -/
theorem Cert.WordsOut.Channel.result {F : FTy → Type} [BitOps F] (X : FVec F Cert.WordsOut.S1024x1024 .f32) :
    Cert.WordsOut.Read.val_main_v3 (F := F) X = words 512 (rounded X) :=
  pairs_words _ _ _ _ rfl

/-- Its reference's words. -/
theorem Cert.WordsGates.Channel.result {F : FTy → Type} [BitOps F] (X : FVec F Cert.WordsGates.S512x512 .f32) :
    Cert.WordsGates.Read.val_main_v3 (F := F) X = words 256 (rounded X) :=
  pairs_words _ _ _ _ rfl

end
-- ==== Proof.lean ====
/- The channel mixer's claims: the launch runs and leaves its arguments alone, before and after the constant of the cubic term is
   named; the reference does too; and the two compute the same array over the extended reals. Beside them the token mixer's launch
   runs and leaves its arguments alone, and the packing of each weight is its reference to the bit. -/
module

public import proofs.«01_k».proof.Defs
public import proofs.«01_k».proof.Proof.Channel.KernelFrame
public import proofs.«01_k».proof.Proof.Channel.Track
public import proofs.«01_k».proof.Proof.Channel.Reference
public import proofs.«01_k».proof.Proof.Gen.Mixer.Frame
public import proofs.«01_k».proof.Proof.Gen.MixerIdeal.Frame
public import proofs.«01_k».proof.Proof.Channel.PackUp
public import proofs.«01_k».proof.Proof.Channel.PackDown
public import proofs.«01_k».proof.Proof.Channel.PackMixer
public import Idealize.ShloMosaic.Lib.Claim
public import Idealize.ShloMosaic.Lib.Quiescent

@[expose] public section

noncomputable section

namespace Cert.Proof

open Idealize.ShloMosaic Idealize.ShloMosaic.TcCoe Idealize.SL.Sem

/-- The printed launch runs, whatever it is given. -/
theorem frame_kernel : Cert.quiescent_Kernel := fun m ρ _ => Cert.Kernel.Channel.frame m ρ

/-- So does the launch with its constant named. -/
theorem frame_ideal : Cert.quiescent_KernelIdeal := fun m ρ _ =>
  (θ_run Cert.KernelIdeal.defs _ _).mono (fun _ h => ⟨fun c => (h.1 c).2, h.2⟩) (Cert.KernelIdeal.Channel.run_value m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the cubic coefficient times the outer one. -/
theorem preserves : Cert.preserves_Kernel_KernelIdeal :=
  IdealRules.named_const.statement Cert.KernelIdeal.κ "gelu_cubic" .f32 0x3D122279#32 ((80338380498831 / 2251799813685248 : ℝ) : EReal) rfl

/-- The launch and the reference compute one array: row by row both are the channel mixer of the whole sequence. -/
theorem algebraic : Cert.algebraic_KernelIdeal_ReferenceIdeal := by
  intro m ρ m' ρ' _ hagree
  refine ⟨_, (θ_run Cert.KernelIdeal.defs _ _).mono (fun _ h c => h.1 c) (Cert.KernelIdeal.Channel.run_value m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  funext i
  refine (Cert.ReferenceIdeal.Channel.result m' c i).trans ?_
  rw [h0, h1, h2, h3, h4, h5, h6]
  rfl

/-- The token mixer's launch runs. -/
theorem frame_mixer : Cert.quiescent_Mixer := fun m ρ _ => Cert.Mixer.Gen.frame m ρ

/-- So does the same launch over the extended reals. -/
theorem frame_mixer_ideal : Cert.quiescent_MixerIdeal := fun m ρ _ => Cert.MixerIdeal.Gen.frame m ρ

/-- The packing of the up-projection runs. -/
theorem frame_up : Cert.quiescent_PackUp := fun m ρ _ => Cert.PackUp.Gen.frame m ρ

/-- So does its reference. -/
theorem frame_words_up : Cert.quiescent_WordsUp := fun m ρ _ =>
  (θ_run Cert.WordsUp.defs _ _).mono (fun r h => ⟨fun c => (h c).2, sem_eq_zero_of_no_sems (by decide) r.2⟩)
    (Cert.WordsUp.Value.run (F := Bits) m ρ)

/-- The packing of the down-projection runs. -/
theorem frame_down : Cert.quiescent_PackDown := fun m ρ _ => Cert.PackDown.Gen.frame m ρ

/-- So does its reference. -/
theorem frame_words_down : Cert.quiescent_WordsDown := fun m ρ _ =>
  (θ_run Cert.WordsDown.defs _ _).mono (fun r h => ⟨fun c => (h c).2, sem_eq_zero_of_no_sems (by decide) r.2⟩)
    (Cert.WordsDown.Value.run (F := Bits) m ρ)

/-- Nothing is replaced in the token mixer. -/
theorem preserves_mixer : Cert.preserves_Mixer_MixerIdeal := trivial

/-- The packed up-projection is the reference's, bit for bit. -/
theorem bitexact_up : Cert.bitexact_PackUp_WordsUp := by
  intro m ρ m' ρ' _ hagree
  refine ⟨_, Cert.PackUp.Channel.run m ρ, ?_⟩
  refine (θ_run Cert.WordsUp.defs _ _).mono (fun _ h c => ⟨(h c).1.trans ?_, (h c).2⟩) (Cert.WordsUp.Value.run (F := Bits) m' ρ')
  rw [hagree c]
  exact Cert.WordsUp.Channel.result _

/-- The packed down-projection is the reference's, bit for bit. -/
theorem bitexact_down : Cert.bitexact_PackDown_WordsDown := by
  intro m ρ m' ρ' _ hagree
  refine ⟨_, Cert.PackDown.Channel.run m ρ, ?_⟩
  refine (θ_run Cert.WordsDown.defs _ _).mono (fun _ h c => ⟨(h c).1.trans ?_, (h c).2⟩) (Cert.WordsDown.Value.run (F := Bits) m' ρ')
  rw [hagree c]
  exact Cert.WordsDown.Channel.result _

/-- The packing of the token mixer's input projection runs. -/
theorem frame_in : Cert.quiescent_PackIn := fun m ρ _ => Cert.PackIn.Gen.frame m ρ

/-- So does its reference. -/
theorem frame_words_in : Cert.quiescent_WordsIn := fun m ρ _ =>
  (θ_run Cert.WordsIn.defs _ _).mono (fun r h => ⟨fun c => (h c).2, sem_eq_zero_of_no_sems (by decide) r.2⟩)
    (Cert.WordsIn.Value.run (F := Bits) m ρ)

/-- The packed input projection is the reference's, bit for bit. -/
theorem bitexact_in : Cert.bitexact_PackIn_WordsIn := by
  intro m ρ m' ρ' _ hagree
  refine ⟨_, Cert.PackIn.Channel.run m ρ, ?_⟩
  refine (θ_run Cert.WordsIn.defs _ _).mono (fun _ h c => ⟨(h c).1.trans ?_, (h c).2⟩) (Cert.WordsIn.Value.run (F := Bits) m' ρ')
  rw [hagree c]
  exact Cert.WordsIn.Channel.result _

/-- The packing of the token mixer's output projection runs. -/
theorem frame_out : Cert.quiescent_PackOut := fun m ρ _ => Cert.PackOut.Gen.frame m ρ

/-- So does its reference. -/
theorem frame_words_out : Cert.quiescent_WordsOut := fun m ρ _ =>
  (θ_run Cert.WordsOut.defs _ _).mono (fun r h => ⟨fun c => (h c).2, sem_eq_zero_of_no_sems (by decide) r.2⟩)
    (Cert.WordsOut.Value.run (F := Bits) m ρ)

/-- The packed output projection is the reference's, bit for bit. -/
theorem bitexact_out : Cert.bitexact_PackOut_WordsOut := by
  intro m ρ m' ρ' _ hagree
  refine ⟨_, Cert.PackOut.Channel.run m ρ, ?_⟩
  refine (θ_run Cert.WordsOut.defs _ _).mono (fun _ h c => ⟨(h c).1.trans ?_, (h c).2⟩) (Cert.WordsOut.Value.run (F := Bits) m' ρ')
  rw [hagree c]
  exact Cert.WordsOut.Channel.result _

/-- The packing of the token mixer's gates runs. -/
theorem frame_gates : Cert.quiescent_PackGates := fun m ρ _ => Cert.PackGates.Gen.frame m ρ

/-- So does its reference. -/
theorem frame_words_gates : Cert.quiescent_WordsGates := fun m ρ _ =>
  (θ_run Cert.WordsGates.defs _ _).mono (fun r h => ⟨fun c => (h c).2, sem_eq_zero_of_no_sems (by decide) r.2⟩)
    (Cert.WordsGates.Value.run (F := Bits) m ρ)

/-- The packed gates are the reference's, bit for bit. -/
theorem bitexact_gates : Cert.bitexact_PackGates_WordsGates := by
  intro m ρ m' ρ' _ hagree
  refine ⟨_, Cert.PackGates.Channel.run m ρ, ?_⟩
  refine (θ_run Cert.WordsGates.defs _ _).mono (fun _ h c => ⟨(h c).1.trans ?_, (h c).2⟩) (Cert.WordsGates.Value.run (F := Bits) m' ρ')
  rw [hagree c]
  exact Cert.WordsGates.Channel.result _

theorem claim : Cert.Claim := ⟨Cert.Kernel.Gen.facts, Cert.KernelIdeal.Gen.facts, Cert.ReferenceIdeal.Gen.facts,
  Cert.Mixer.Gen.facts, Cert.MixerIdeal.Gen.facts, Cert.PackUp.Gen.facts, Cert.WordsUp.Gen.facts, Cert.PackDown.Gen.facts,
  Cert.WordsDown.Gen.facts, Cert.PackIn.Gen.facts, Cert.WordsIn.Gen.facts, Cert.PackOut.Gen.facts, Cert.WordsOut.Gen.facts,
  Cert.PackGates.Gen.facts, Cert.WordsGates.Gen.facts,
  frame_kernel, frame_ideal, frame_reference, frame_mixer, frame_mixer_ideal, frame_up, frame_words_up, frame_down, frame_words_down,
  frame_in, frame_words_in, frame_out, frame_words_out, frame_gates, frame_words_gates,
  preserves, algebraic, preserves_mixer, bitexact_up, bitexact_down, bitexact_in, bitexact_out, bitexact_gates⟩

end Cert.Proof

end
